-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S2x256x2048 : Shape := ⟨3, ![2, 256, 2048]⟩
abbrev S2 : Shape := ⟨1, ![2]⟩
abbrev S_ : Shape := ⟨0, ![]⟩
abbrev S256x256 : Shape := ⟨2, ![256, 256]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x4096, .f32⟩
  | .hbm, ⟨2, _⟩ => ⟨S256x4096, .f32⟩
  | .local _ .vmem, ⟨0, _⟩ => ⟨S8192x256, .f32⟩
  | .local _ .vmem, ⟨1, _⟩ => ⟨S256x4096, .f32⟩
  | .local _ .vmem, ⟨2, _⟩ => ⟨S256x4096, .f32⟩
  | .local _ .vmem, ⟨3, _⟩ => ⟨S2x256x2048, .f32⟩
  | .local _ .vmem, ⟨4, _⟩ => ⟨S2x256x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_19 : BitVec 32 := 1#32
  let v30 : BitVec 32 := Scalar.subi v2 c1_i32_19
  let c32_i32_20 : BitVec 32 := 32#32
  let c0_i32_21 : BitVec 32 := 0#32
  let v31 : BitVec 1 := Scalar.cmpi .eq c32_i32_20 c0_i32_21
  let c1_i32_22 : BitVec 32 := 1#32
  let v32 : BitVec 32 := Scalar.select v31 c1_i32_22 c32_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32 : BitVec 32 := 256#32
  let v41 : BitVec 32 := Scalar.muli v40 c256_i32
  let v42 : Index := Scalar.indexCast v41
  let c0 : Index := 0#32
  ![v42.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v51 : BitVec 32 := Scalar.addi v2 c1_i32_31
  let c32_i32_32 : BitVec 32 := 32#32
  let c0_i32_33 : BitVec 32 := 0#32
  let v52 : BitVec 1 := Scalar.cmpi .eq c32_i32_32 c0_i32_33
  let c1_i32_34 : BitVec 32 := 1#32
  let v53 : BitVec 32 := Scalar.select v52 c1_i32_34 c32_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c256_i32_38 : BitVec 32 := 256#32
  let v62 : BitVec 32 := Scalar.muli v61 c256_i32_38
  let v63 : Index := Scalar.indexCast v62
  let c0_39 : Index := 0#32
  ![v63.toNat, 0]
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_49 : BitVec 32 := 1#32
  let v72 : BitVec 32 := Scalar.muli v24 c1_i32_49
  let v73 : BitVec 32 := Scalar.addi c0_i32_50 v72
  v73.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v82 : BitVec 32 := Scalar.muli v13 c1_i32_59
  let v83 : BitVec 32 := Scalar.addi c0_i32_60 v82
  v83.toNat
def k0_off3 (d0 : Dev nD) (c0_i32_66 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_65 : BitVec 32 := 2#32
  let v92 : BitVec 32 := Scalar.subi v2 c2_i32_65
  let v93 : BitVec 32 := Scalar.subi v92 c0_i32_66
  let c32_i32_67 : BitVec 32 := 32#32
  let c0_i32_68 : BitVec 32 := 0#32
  let v94 : BitVec 1 := Scalar.cmpi .eq c32_i32_67 c0_i32_68
  let c1_i32_69 : BitVec 32 := 1#32
  let v95 : BitVec 32 := Scalar.select v94 c1_i32_69 c32_i32_67
  let v96 : BitVec 32 := Scalar.remsi v93 v95
  let c0_i32_71 : BitVec 32 := 0#32
  let v98 : BitVec 1 := Scalar.cmpi .slt v96 c0_i32_71
  let c0_i32_72 : BitVec 32 := 0#32
  let v99 : BitVec 1 := Scalar.cmpi .slt v95 c0_i32_72
  let v100 : BitVec 1 := Scalar.xori v98 v99
  let c0_i32_70 : BitVec 32 := 0#32
  let v97 : BitVec 1 := Scalar.cmpi .ne v96 c0_i32_70
  let v101 : BitVec 1 := Scalar.andi v100 v97
  let v102 : BitVec 32 := Scalar.addi v96 v95
  let v103 : BitVec 32 := Scalar.select v101 v102 v96
  let c256_i32_73 : BitVec 32 := 256#32
  let v104 : BitVec 32 := Scalar.muli v103 c256_i32_73
  let v105 : Index := Scalar.indexCast v104
  let c0_74 : Index := 0#32
  ![v105.toNat, 0]
def k0_off4 (d0 : Dev nD) (c0_i32_79 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_78 : BitVec 32 := 2#32
  let v111 : BitVec 32 := Scalar.addi v2 c2_i32_78
  let v112 : BitVec 32 := Scalar.addi v111 c0_i32_79
  let c32_i32_80 : BitVec 32 := 32#32
  let c0_i32_81 : BitVec 32 := 0#32
  let v113 : BitVec 1 := Scalar.cmpi .eq c32_i32_80 c0_i32_81
  let c1_i32_82 : BitVec 32 := 1#32
  let v114 : BitVec 32 := Scalar.select v113 c1_i32_82 c32_i32_80
  let v115 : BitVec 32 := Scalar.remsi v112 v114
  let c0_i32_84 : BitVec 32 := 0#32
  let v117 : BitVec 1 := Scalar.cmpi .slt v115 c0_i32_84
  let c0_i32_85 : BitVec 32 := 0#32
  let v118 : BitVec 1 := Scalar.cmpi .slt v114 c0_i32_85
  let v119 : BitVec 1 := Scalar.xori v117 v118
  let c0_i32_83 : BitVec 32 := 0#32
  let v116 : BitVec 1 := Scalar.cmpi .ne v115 c0_i32_83
  let v120 : BitVec 1 := Scalar.andi v119 v116
  let v121 : BitVec 32 := Scalar.addi v115 v114
  let v122 : BitVec 32 := Scalar.select v120 v121 v115
  let c256_i32_86 : BitVec 32 := 256#32
  let v123 : BitVec 32 := Scalar.muli v122 c256_i32_86
  let v124 : Index := Scalar.indexCast v123
  let c0_87 : Index := 0#32
  ![v124.toNat, 0]
def k0_dev5 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_141 : BitVec 32 := 1#32
  let v170 : BitVec 32 := Scalar.muli v13 c1_i32_141
  let v171 : BitVec 32 := Scalar.addi c0_i32_142 v170
  v171.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_144 : BitVec 32 := 1#32
  let v172 : BitVec 32 := Scalar.muli v24 c1_i32_144
  let v173 : BitVec 32 := Scalar.addi c0_i32_145 v172
  v173.toNat
@[reducible] def k0_t1_loop : Scf.Loop 32 :=
  let c0_i32_146 : BitVec 32 := 0#32
  let c14_i32 : BitVec 32 := 14#32
  let v174 : BitVec 32 := Scalar.addi c0_i32_146 c14_i32
  let c1_i32_147 : BitVec 32 := 1#32
  ⟨c0_i32_146, v174, c1_i32_147⟩
def k0_dev7 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_348 : BitVec 32 := 1#32
  let v353 : BitVec 32 := Scalar.muli v24 c1_i32_348
  let v354 : BitVec 32 := Scalar.addi c0_i32_349 v353
  v354.toNat
def k0_dev8 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_358 : BitVec 32 := 1#32
  let v363 : BitVec 32 := Scalar.muli v13 c1_i32_358
  let v364 : BitVec 32 := Scalar.addi c0_i32_359 v363
  v364.toNat
def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_364 : BitVec 32 := 2#32
  let v373 : BitVec 32 := Scalar.subi v2 c2_i32_364
  let c1_i32_339 : BitVec 32 := 1#32
  let c2_i32_338 : BitVec 32 := 2#32
  let c0_i32_146 : BitVec 32 := 0#32
  let c1_i32_147 : BitVec 32 := 1#32
  let arg11 : BitVec 32 := Scf.iv c0_i32_146 c1_i32_147 k0_t1
  let v351 : BitVec 32 := Scalar.muli c2_i32_338 arg11
  let v352 : BitVec 32 := Scalar.addi c1_i32_339 v351
  let v374 : BitVec 32 := Scalar.subi v373 v352
  let c32_i32_365 : BitVec 32 := 32#32
  let c0_i32_366 : BitVec 32 := 0#32
  let v375 : BitVec 1 := Scalar.cmpi .eq c32_i32_365 c0_i32_366
  let c1_i32_367 : BitVec 32 := 1#32
  let v376 : BitVec 32 := Scalar.select v375 c1_i32_367 c32_i32_365
  let v377 : BitVec 32 := Scalar.remsi v374 v376
  let c0_i32_369 : BitVec 32 := 0#32
  let v379 : BitVec 1 := Scalar.cmpi .slt v377 c0_i32_369
  let c0_i32_370 : BitVec 32 := 0#32
  let v380 : BitVec 1 := Scalar.cmpi .slt v376 c0_i32_370
  let v381 : BitVec 1 := Scalar.xori v379 v380
  let c0_i32_368 : BitVec 32 := 0#32
  let v378 : BitVec 1 := Scalar.cmpi .ne v377 c0_i32_368
  let v382 : BitVec 1 := Scalar.andi v381 v378
  let v383 : BitVec 32 := Scalar.addi v377 v376
  let v384 : BitVec 32 := Scalar.select v382 v383 v377
  let c256_i32_371 : BitVec 32 := 256#32
  let v385 : BitVec 32 := Scalar.muli v384 c256_i32_371
  let v386 : Index := Scalar.indexCast v385
  let c0_372 : Index := 0#32
  ![v386.toNat, 0]
def k0_off6 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_376 : BitVec 32 := 2#32
  let v392 : BitVec 32 := Scalar.addi v2 c2_i32_376
  let c1_i32_339 : BitVec 32 := 1#32
  let c2_i32_338 : BitVec 32 := 2#32
  let c0_i32_146 : BitVec 32 := 0#32
  let c1_i32_147 : BitVec 32 := 1#32
  let arg11 : BitVec 32 := Scf.iv c0_i32_146 c1_i32_147 k0_t1
  let v351 : BitVec 32 := Scalar.muli c2_i32_338 arg11
  let v352 : BitVec 32 := Scalar.addi c1_i32_339 v351
  let v393 : BitVec 32 := Scalar.addi v392 v352
  let c32_i32_377 : BitVec 32 := 32#32
  let c0_i32_378 : BitVec 32 := 0#32
  let v394 : BitVec 1 := Scalar.cmpi .eq c32_i32_377 c0_i32_378
  let c1_i32_379 : BitVec 32 := 1#32
  let v395 : BitVec 32 := Scalar.select v394 c1_i32_379 c32_i32_377
  let v396 : BitVec 32 := Scalar.remsi v393 v395
  let c0_i32_381 : BitVec 32 := 0#32
  let v398 : BitVec 1 := Scalar.cmpi .slt v396 c0_i32_381
  let c0_i32_382 : BitVec 32 := 0#32
  let v399 : BitVec 1 := Scalar.cmpi .slt v395 c0_i32_382
  let v400 : BitVec 1 := Scalar.xori v398 v399
  let c0_i32_380 : BitVec 32 := 0#32
  let v397 : BitVec 1 := Scalar.cmpi .ne v396 c0_i32_380
  let v401 : BitVec 1 := Scalar.andi v400 v397
  let v402 : BitVec 32 := Scalar.addi v396 v395
  let v403 : BitVec 32 := Scalar.select v401 v402 v396
  let c256_i32_383 : BitVec 32 := 256#32
  let v404 : BitVec 32 := Scalar.muli v403 c256_i32_383
  let v405 : Index := Scalar.indexCast v404
  let c0_384 : Index := 0#32
  ![v405.toNat, 0]
def k0_dev9 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_439 : BitVec 32 := 1#32
  let v451 : BitVec 32 := Scalar.muli v13 c1_i32_439
  let v452 : BitVec 32 := Scalar.addi c0_i32_440 v451
  v452.toNat
def k0_dev10 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_442 : BitVec 32 := 1#32
  let v453 : BitVec 32 := Scalar.muli v24 c1_i32_442
  let v454 : BitVec 32 := Scalar.addi c0_i32_443 v453
  v454.toNat
def k0_dev11 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_453 : BitVec 32 := 1#32
  let v456 : BitVec 32 := Scalar.muli v24 c1_i32_453
  let v457 : BitVec 32 := Scalar.addi c0_i32_454 v456
  v457.toNat
def k0_dev12 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v466 : BitVec 32 := Scalar.muli v13 c1_i32_463
  let v467 : BitVec 32 := Scalar.addi c0_i32_464 v466
  v467.toNat
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_469 : BitVec 32 := 2#32
  let v476 : BitVec 32 := Scalar.subi v2 c2_i32_469
  let c1_i32_339 : BitVec 32 := 1#32
  let c2_i32_338 : BitVec 32 := 2#32
  let c0_i32_146 : BitVec 32 := 0#32
  let c1_i32_147 : BitVec 32 := 1#32
  let arg11 : BitVec 32 := Scf.iv c0_i32_146 c1_i32_147 k0_t1
  let v351 : BitVec 32 := Scalar.muli c2_i32_338 arg11
  let v352 : BitVec 32 := Scalar.addi c1_i32_339 v351
  let c1_i32_444 : BitVec 32 := 1#32
  let v455 : BitVec 32 := Scalar.addi v352 c1_i32_444
  let v477 : BitVec 32 := Scalar.subi v476 v455
  let c32_i32_470 : BitVec 32 := 32#32
  let c0_i32_471 : BitVec 32 := 0#32
  let v478 : BitVec 1 := Scalar.cmpi .eq c32_i32_470 c0_i32_471
  let c1_i32_472 : BitVec 32 := 1#32
  let v479 : BitVec 32 := Scalar.select v478 c1_i32_472 c32_i32_470
  let v480 : BitVec 32 := Scalar.remsi v477 v479
  let c0_i32_474 : BitVec 32 := 0#32
  let v482 : BitVec 1 := Scalar.cmpi .slt v480 c0_i32_474
  let c0_i32_475 : BitVec 32 := 0#32
  let v483 : BitVec 1 := Scalar.cmpi .slt v479 c0_i32_475
  let v484 : BitVec 1 := Scalar.xori v482 v483
  let c0_i32_473 : BitVec 32 := 0#32
  let v481 : BitVec 1 := Scalar.cmpi .ne v480 c0_i32_473
  let v485 : BitVec 1 := Scalar.andi v484 v481
  let v486 : BitVec 32 := Scalar.addi v480 v479
  let v487 : BitVec 32 := Scalar.select v485 v486 v480
  let c256_i32_476 : BitVec 32 := 256#32
  let v488 : BitVec 32 := Scalar.muli v487 c256_i32_476
  let v489 : Index := Scalar.indexCast v488
  let c0_477 : Index := 0#32
  ![v489.toNat, 0]
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_481 : BitVec 32 := 2#32
  let v495 : BitVec 32 := Scalar.addi v2 c2_i32_481
  let c1_i32_339 : BitVec 32 := 1#32
  let c2_i32_338 : BitVec 32 := 2#32
  let c0_i32_146 : BitVec 32 := 0#32
  let c1_i32_147 : BitVec 32 := 1#32
  let arg11 : BitVec 32 := Scf.iv c0_i32_146 c1_i32_147 k0_t1
  let v351 : BitVec 32 := Scalar.muli c2_i32_338 arg11
  let v352 : BitVec 32 := Scalar.addi c1_i32_339 v351
  let c1_i32_444 : BitVec 32 := 1#32
  let v455 : BitVec 32 := Scalar.addi v352 c1_i32_444
  let v496 : BitVec 32 := Scalar.addi v495 v455
  let c32_i32_482 : BitVec 32 := 32#32
  let c0_i32_483 : BitVec 32 := 0#32
  let v497 : BitVec 1 := Scalar.cmpi .eq c32_i32_482 c0_i32_483
  let c1_i32_484 : BitVec 32 := 1#32
  let v498 : BitVec 32 := Scalar.select v497 c1_i32_484 c32_i32_482
  let v499 : BitVec 32 := Scalar.remsi v496 v498
  let c0_i32_486 : BitVec 32 := 0#32
  let v501 : BitVec 1 := Scalar.cmpi .slt v499 c0_i32_486
  let c0_i32_487 : BitVec 32 := 0#32
  let v502 : BitVec 1 := Scalar.cmpi .slt v498 c0_i32_487
  let v503 : BitVec 1 := Scalar.xori v501 v502
  let c0_i32_485 : BitVec 32 := 0#32
  let v500 : BitVec 1 := Scalar.cmpi .ne v499 c0_i32_485
  let v504 : BitVec 1 := Scalar.andi v503 v500
  let v505 : BitVec 32 := Scalar.addi v499 v498
  let v506 : BitVec 32 := Scalar.select v504 v505 v499
  let c256_i32_488 : BitVec 32 := 256#32
  let v507 : BitVec 32 := Scalar.muli v506 c256_i32_488
  let v508 : Index := Scalar.indexCast v507
  let c0_489 : Index := 0#32
  ![v508.toNat, 0]
def k0_dev13 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_544 : BitVec 32 := 1#32
  let v554 : BitVec 32 := Scalar.muli v13 c1_i32_544
  let v555 : BitVec 32 := Scalar.addi c0_i32_545 v554
  v555.toNat
def k0_dev14 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_547 : BitVec 32 := 1#32
  let v556 : BitVec 32 := Scalar.muli v24 c1_i32_547
  let v557 : BitVec 32 := Scalar.addi c0_i32_548 v556
  v557.toNat
def k0_dev15 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_157 : BitVec 32 := 1#32
  let v175 : BitVec 32 := Scalar.muli v24 c1_i32_157
  let v176 : BitVec 32 := Scalar.addi c0_i32_158 v175
  v176.toNat
def k0_dev16 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_167 : BitVec 32 := 1#32
  let v185 : BitVec 32 := Scalar.muli v13 c1_i32_167
  let v186 : BitVec 32 := Scalar.addi c0_i32_168 v185
  v186.toNat
def k0_dev17 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_249 : BitVec 32 := 1#32
  let v273 : BitVec 32 := Scalar.muli v13 c1_i32_249
  let v274 : BitVec 32 := Scalar.addi c0_i32_250 v273
  v274.toNat
def k0_dev18 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_252 : BitVec 32 := 1#32
  let v275 : BitVec 32 := Scalar.muli v24 c1_i32_252
  let v276 : BitVec 32 := Scalar.addi c0_i32_253 v275
  v276.toNat
def k0_dev19 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_262 : BitVec 32 := 1#32
  let v277 : BitVec 32 := Scalar.muli v24 c1_i32_262
  let v278 : BitVec 32 := Scalar.addi c0_i32_263 v277
  v278.toNat
def k0_dev20 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_272 : BitVec 32 := 1#32
  let v287 : BitVec 32 := Scalar.muli v13 c1_i32_272
  let v288 : BitVec 32 := Scalar.addi c0_i32_273 v287
  v288.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_278 : BitVec 32 := 256#32
  let v297 : BitVec 32 := Scalar.muli v2 c256_i32_278
  let v298 : Index := Scalar.indexCast v297
  let c0_279 : Index := 0#32
  ![v298.toNat, 0]
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdeal.Geo.lean ====
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.KernelIdealProof

open Cert.KernelIdeal Cert.KernelIdeal.Gen
open Idealize.ShloMosaic Idealize.ShloMosaic.TcCoe

/-! ## The ring of the 32 devices -/

set_option backward.proofsInPublic true in
/-- The device to the right. -/
def rgt (c : Dev nD) : Dev nD := ⟨(c.val + 1) % 32, Nat.mod_lt _ (by decide)⟩
set_option backward.proofsInPublic true in
/-- The device to the left. -/
def lft (c : Dev nD) : Dev nD := ⟨(c.val + 31) % 32, Nat.mod_lt _ (by decide)⟩

/-- The device that direction `d` sends to: right for `false`, left for `true`. -/
def tgt (d : Bool) (c : Dev nD) : Dev nD := match d with | false => rgt c | true => lft c
/-- The device that direction `d` receives from. -/
def org (d : Bool) (c : Dev nD) : Dev nD := match d with | false => lft c | true => rgt c

theorem lft_rgt (c : Dev nD) : lft (rgt c) = c := by revert c; decide
theorem rgt_lft (c : Dev nD) : rgt (lft c) = c := by revert c; decide
theorem rgt_ne_lft (c : Dev nD) : rgt c ≠ lft c := by revert c; decide
theorem org_tgt (d : Bool) (c : Dev nD) : org d (tgt d c) = c := by cases d <;> [exact lft_rgt c; exact rgt_lft c]
theorem tgt_org (d : Bool) (c : Dev nD) : tgt d (org d c) = c := by cases d <;> [exact rgt_lft c; exact lft_rgt c]

/-- The row block that a device adds at step `n` of direction `d`. -/
def row (d : Bool) (n : ℕ) (c : Dev nD) : ℕ := match d with | false => (c.val + 63 - n) % 32 | true => (c.val + 1 + n) % 32

theorem row_lt (d : Bool) (n : ℕ) (c : Dev nD) : row d n c < 32 := by cases d <;> exact Nat.mod_lt _ (by decide)

/-! ## The devices a transfer or a signal names -/

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = rgt c := by revert c; decide +kernel
theorem dev4_eq (c : Dev nD) : (⟨k0_dev4 c, k0_dev4_lt c⟩ : Dev nD) = lft c := by revert c; decide +kernel
theorem dev5_eq (c : Dev nD) : (⟨k0_dev5 c, k0_dev5_lt c⟩ : Dev nD) = lft c := by revert c; decide +kernel
theorem dev6_eq (c : Dev nD) : (⟨k0_dev6 c, k0_dev6_lt c⟩ : Dev nD) = rgt c := by revert c; decide +kernel
theorem dev7_eq (c : Dev nD) : (⟨k0_dev7 c, k0_dev7_lt c⟩ : Dev nD) = rgt c := by revert c; decide +kernel
theorem dev8_eq (c : Dev nD) : (⟨k0_dev8 c, k0_dev8_lt c⟩ : Dev nD) = lft c := by revert c; decide +kernel
theorem dev9_eq (c : Dev nD) : (⟨k0_dev9 c, k0_dev9_lt c⟩ : Dev nD) = lft c := by revert c; decide +kernel
theorem dev10_eq (c : Dev nD) : (⟨k0_dev10 c, k0_dev10_lt c⟩ : Dev nD) = rgt c := by revert c; decide +kernel
theorem dev11_eq (c : Dev nD) : (⟨k0_dev11 c, k0_dev11_lt c⟩ : Dev nD) = rgt c := by revert c; decide +kernel
theorem dev12_eq (c : Dev nD) : (⟨k0_dev12 c, k0_dev12_lt c⟩ : Dev nD) = lft c := by revert c; decide +kernel
theorem dev13_eq (c : Dev nD) : (⟨k0_dev13 c, k0_dev13_lt c⟩ : Dev nD) = lft c := by revert c; decide +kernel
theorem dev14_eq (c : Dev nD) : (⟨k0_dev14 c, k0_dev14_lt c⟩ : Dev nD) = rgt c := by revert c; decide +kernel
theorem dev15_eq (c : Dev nD) : (⟨k0_dev15 c, k0_dev15_lt c⟩ : Dev nD) = rgt c := by revert c; decide +kernel
theorem dev16_eq (c : Dev nD) : (⟨k0_dev16 c, k0_dev16_lt c⟩ : Dev nD) = lft c := by revert c; decide +kernel
theorem dev17_eq (c : Dev nD) : (⟨k0_dev17 c, k0_dev17_lt c⟩ : Dev nD) = lft c := by revert c; decide +kernel
theorem dev18_eq (c : Dev nD) : (⟨k0_dev18 c, k0_dev18_lt c⟩ : Dev nD) = rgt c := by revert c; decide +kernel
theorem dev19_eq (c : Dev nD) : (⟨k0_dev19 c, k0_dev19_lt c⟩ : Dev nD) = rgt c := by revert c; decide +kernel
theorem dev20_eq (c : Dev nD) : (⟨k0_dev20 c, k0_dev20_lt c⟩ : Dev nD) = lft c := by revert c; decide +kernel

/-! ## The row blocks a load names -/

theorem off1_eq (c : Dev nD) : k0_off1 c = ![256 * row false 0 c, 0] := by revert c; decide +kernel
theorem off2_eq (c : Dev nD) : k0_off2 c = ![256 * row true 0 c, 0] := by revert c; decide +kernel
theorem off3_first (c : Dev nD) : k0_off3 c 0#32 = ![256 * row false 1 c, 0] := by revert c; decide +kernel
theorem off4_first (c : Dev nD) : k0_off4 c 0#32 = ![256 * row true 1 c, 0] := by revert c; decide +kernel
theorem off5_eq (c : Dev nD) (k : Fin k0_t1_loop.trips) : k0_off5 c k = ![256 * row false (2 * k.val + 2) c, 0] := by revert k c; decide +kernel
theorem off6_eq (c : Dev nD) (k : Fin k0_t1_loop.trips) : k0_off6 c k = ![256 * row true (2 * k.val + 2) c, 0] := by revert k c; decide +kernel
theorem off7_eq (c : Dev nD) (k : Fin k0_t1_loop.trips) : k0_off7 c k = ![256 * row false (2 * k.val + 3) c, 0] := by revert k c; decide +kernel
theorem off8_eq (c : Dev nD) (k : Fin k0_t1_loop.trips) : k0_off8 c k = ![256 * row true (2 * k.val + 3) c, 0] := by revert k c; decide +kernel
theorem off3_last (c : Dev nD) : k0_off3 c 29#32 = ![256 * row false 30 c, 0] := by revert c; decide +kernel
theorem off4_last (c : Dev nD) : k0_off4 c 29#32 = ![256 * row true 30 c, 0] := by revert c; decide +kernel
theorem off9_eq (d : Bool) (c : Dev nD) : k0_off9 c = ![256 * row d 31 c, 0] := by revert d c; decide +kernel

/-- The loop makes fourteen trips. -/
theorem trips_eq : k0_t1_loop.trips = 14 := by decide

/-- The row block of step `n + 1` is the one the sender used at step `n`. -/
theorem row_succ (d : Bool) (n : ℕ) (hn : n < 31) (c : Dev nD) : row d (n + 1) c = row d n (org d c) := by
  have hc := c.isLt
  change c.val < 32 at hc
  cases d
  · show (c.val + 63 - (n + 1)) % 32 = ((c.val + 31) % 32 + 63 - n) % 32
    omega
  · show (c.val + 1 + (n + 1)) % 32 = ((c.val + 1) % 32 + 1 + n) % 32
    omega

end Cert.KernelIdealProof

end
-- ==== Proof.KernelIdeal.Cells.lean ====
module

public import proofs.«01_k».proof.Proof.KernelIdeal.Geo
public import Idealize.ShloMosaic.Lib.Pipeline.Launch
public import Idealize.ShloMosaic.Lib.Pipeline.Kit
public import Idealize.ShloMosaic.Lib.Tactic
public import Idealize.ShloMosaic.Lib.Ring
public import Mathlib.Tactic.Abel

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and the ring's, with duties named by `Bool` -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs and semaphores

Direction `false` sends to the right, direction `true` to the left; each has a buffer of two slots, `false` the first. -/

/-- The two-slot buffer of a direction. -/
def M (d : Bool) : Memref sig .tc .vmem S2x256x2048 .f32 :=
  match d with | false => Memref.whole cc0_scratch0 | true => Memref.whole cc0_scratch1

/-- Where a slot starts in its buffer. -/
def slotOff (s : Bool) : Fin 3 → ℕ := match s with | false => ![0, 0, 0] | true => ![1, 0, 0]

theorem slot_inb (s : Bool) : ∀ a, slotOff s a + S1x256x2048.size a ≤ S2x256x2048.size a := by
  cases s <;> [exact inb_S2x256x2048_S1x256x2048_0_0_0; exact inb_S2x256x2048_S1x256x2048_1_0_0]

/-- The rectangle of a slot in its buffer. -/
abbrev slotR (s : Bool) : Rect S2x256x2048 := Rect.unit (s := S2x256x2048) (slotOff s) S1x256x2048.size (slot_inb s)

/-- A slot. -/
abbrev slot (d s : Bool) : Memref sig .tc .vmem S1x256x2048 .f32 := (M d).slice (slotR s) (fun _ => rfl)

/-- A slot with its unit axis dropped: what the transfers name. -/
abbrev dslot (d s : Bool) : Memref sig .tc .vmem S256x2048 .f32 := (slot d s).squeeze S256x2048 squeezes_S1x256x2048_S256x2048

/-- The semaphore of the barrier between the devices. -/
abbrev barS : Sem sig := (SemArray.scalar (sig.barrier 0 rfl) : Sems sig S_).sem
/-- The semaphore counting the sends out of a slot. -/
def sendS (d s : Bool) : DmaSem sig := match d, s with | false, false => 3 | false, true => 4 | true, false => 7 | true, true => 8
/-- The semaphore counting the arrivals in a slot. -/
def recvS (d s : Bool) : DmaSem sig := match d, s with | false, false => 5 | false, true => 6 | true, false => 9 | true, true => 10
/-- The semaphore counting the slots the neighbour has given back. -/
def credS (d : Bool) : Sem sig := match d with | false => (cc0_scratch6 : Sems sig S_).sem | true => (cc0_scratch7 : Sems sig S_).sem

/-- The ring's cells of one device. -/
inductive Ck | bar | send (d s : Bool) | recv (d s : Bool) | cred (d : Bool)
  deriving DecidableEq

/-- The cells, listed. -/
def ckList : List Ck :=
  [.bar, .send false false, .send false true, .send true false, .send true true,
    .recv false false, .recv false true, .recv true false, .recv true true, .cred false, .cred true]

theorem mem_ckList (k : Ck) : k ∈ ckList := by
  rcases k with _ | ⟨_ | _, _ | _⟩ | ⟨_ | _, _ | _⟩ | (_ | _) <;> decide

instance : Fintype Ck := ⟨⟨ckList, by decide⟩, mem_ckList⟩

def csem : Ck → SemLoc sig
  | .bar => .reg barS | .send d s => .dma (sendS d s) | .recv d s => .dma (recvS d s) | .cred d => .reg (credS d)

abbrev kcell (ck : Dev nD × Ck) : GSem nD τ sig := ((ck.1 : Thread nD τ), csem ck.2)

theorem csem_injective : Function.Injective csem := by
  have h : ∀ a b : Ck, csem a = csem b → a = b := by decide
  exact fun a b => h a b

open Classical in
/-- Which of the ring's cells a semaphore is. -/
def kindOf (sm : SemLoc sig) : Option Ck := if h : ∃ k, csem k = sm then some h.choose else none

theorem kindOf_csem (k : Ck) : kindOf (csem k) = some k := by
  have h : ∃ k', csem k' = csem k := ⟨k, rfl⟩
  unfold kindOf
  rw [dif_pos h]
  exact congrArg some (csem_injective h.choose_spec)

theorem kindOf_none (sm : SemLoc sig) (h : ∀ k, csem k ≠ sm) : kindOf sm = none := by
  unfold kindOf
  exact dif_neg fun ⟨k, hk⟩ => h k hk

/-- The credit of one transfer. -/
def N : ℕ := (dslot false false).view.dmaCredit
theorem N_pos : 0 < N := View.dmaCredit_pos _ (by decide)
theorem credit_eq (d s : Bool) : (dslot d s).view.dmaCredit = N := by cases d <;> cases s <;> rfl

attribute [irreducible] N

/-! ## Contents -/

/-- The block of `x` staged on a device. -/
def xstg (c : Dev nD) : (cc0_stg0_0 : Ref sig .tc).ty.Contents (Elt F) :=
  (win0_0.blk (0 : Fin 1)).view.read (Elt F) ((s₀ m ρ).mem ((c : Thread nD τ).loc main_arg0))
/-- The block of `w` staged on a device. -/
def wstg (c : Dev nD) : (cc0_stg1_0 : Ref sig .tc).ty.Contents (Elt F) :=
  (win0_1.blk (0 : Fin 1)).view.read (Elt F) ((s₀ m ρ).mem ((c : Thread nD τ).loc main_arg1))

theorem row_inb (d : Bool) (n : ℕ) (c : Dev nD) : ∀ a, (![256 * row d n c, 0] : Fin 2 → ℕ) a + S256x256.size a ≤ S8192x256.size a := by
  have h := row_lt d n c
  intro a
  fin_cases a
  · show 256 * row d n c + 256 ≤ 8192
    omega
  · show 0 + 256 ≤ 256
    omega

/-- Where a direction's half of the columns starts. -/
def halfOff (d : Bool) : Fin 2 → ℕ := match d with | false => ![0, 0] | true => ![0, 2048]
theorem half_inb (d : Bool) : ∀ a, halfOff d a + S256x2048.size a ≤ S256x4096.size a := by
  cases d <;> [exact inb_S256x4096_S256x2048_0_0; exact inb_S256x4096_S256x2048_0_2048]

/-- The rows of `x` a device multiplies at step `n`. -/
def xrows (d : Bool) (n : ℕ) (c : Dev nD) : Vec F S256x256 .f32 :=
  (Memref.whole cc0_stg0_0 : Memref sig .tc .vmem S8192x256 .f32).view.readAt (Elt F)
    (Rect.unit (s := S8192x256) ![256 * row d n c, 0] S256x256.size (row_inb d n c)).toLoadRect (xstg m ρ c)
/-- A direction's half of the columns of `w`. -/
def whalf (d : Bool) (c : Dev nD) : Vec F S256x2048 .f32 :=
  (Memref.whole cc0_stg1_0 : Memref sig .tc .vmem S256x4096 .f32).view.readAt (Elt F)
    (Rect.unit (s := S256x4096) (halfOff d) S256x2048.size (half_inb d)).toLoadRect (wstg m ρ c)

/-- The product a device adds at step `n`. -/
def prod (d : Bool) (n : ℕ) (c : Dev nD) : FVec F S256x2048 .f32 := k0_pay3 (xrows m ρ d n c) (whalf m ρ d c)

/-- The running sum a device holds before it sends for the `n`-th time. -/
def acc (d : Bool) : ℕ → Dev nD → FVec F S1x256x2048 .f32
  | 0, c => k0_pay11 (xrows m ρ d 0 c) (whalf m ρ d c)
  | n + 1, c => k0_pay5 (prod m ρ d (n + 1) c) (acc d n (org d c))

/-- A direction's half of the result of a device. -/
def outHalf (d : Bool) (c : Dev nD) : FVec F S256x2048 .f32 := k0_pay2 (prod m ρ d 31 c) (acc m ρ d 30 (org d c))

/-- A slot of a device, holding `V`. -/
def slotOwn (c : Dev nD) (d s : Bool) (V : FVec F S1x256x2048 .f32) : sProp 𝕄 := owns (c : Thread nD τ) (slot d s) fullShare V
/-- A slot of a device, whatever it holds. -/
def slotAny (c : Dev nD) (d s : Bool) : sProp 𝕄 := iprop(∃ V, slotOwn (F := F) c d s V)

instance slotOwn_storable (c : Dev nD) (d s : Bool) (V : FVec F S1x256x2048 .f32) : BI.Storable (upEmb : UEmb _ 𝕄) (slotOwn (F := F) c d s V) := by
  unfold slotOwn; infer_instance
instance slotAny_storable (c : Dev nD) (d s : Bool) : BI.Storable (upEmb : UEmb _ 𝕄) (slotAny (F := F) c d s) := by
  unfold slotAny; infer_instance

/-! ## The schedule

A direction's transfer `t` leaves slot `par t` and arrives in slot `!par t` of the next device. -/

/-- Whether a number is odd. -/
def par (t : ℕ) : Bool := t % 2 == 1

/-- The transfer counted by round `r` of a slot's send cell. -/
def sendHop (s : Bool) (r : ℕ) : ℕ := 2 * r + s.toNat
/-- The transfer counted by round `r` of a slot's receive cell. -/
def recvHop (s : Bool) (r : ℕ) : ℕ := 2 * r + (!s).toNat

theorem par_succ (t : ℕ) : par (t + 1) = !par t := by
  unfold par
  rcases Nat.mod_two_eq_zero_or_one t with h | h <;> simp [Nat.add_mod, h]
theorem sendHop_par (t : ℕ) : sendHop (par t) (t / 2) = t := by
  unfold sendHop par
  rcases Nat.mod_two_eq_zero_or_one t with h | h <;> simp [h] <;> omega
theorem recvHop_par (t : ℕ) : recvHop (!par t) (t / 2) = t := by
  unfold recvHop par
  rcases Nat.mod_two_eq_zero_or_one t with h | h <;> simp [h] <;> omega
theorem par_sendHop (s : Bool) (r : ℕ) : par (sendHop s r) = s := by
  unfold sendHop par
  cases s <;> simp <;> omega
theorem par_recvHop (s : Bool) (r : ℕ) : (!par (recvHop s r)) = s := by
  unfold recvHop par
  cases s <;> simp <;> omega

/-- What a device's barrier signal hands its neighbour: the slot the neighbour's first transfer arrives in. -/
def barPay (c : Dev nD) (d : Bool) : sProp 𝕄 := iprop(slotAny (F := F) (tgt d c) d true ∗ reached ER (kcell (tgt d c, .recv d true)) 0)
/-- What arrives with transfer `t`: the sender's running sum, and how far the sender's credit cell is. -/
def recvPay (c : Dev nD) (d s : Bool) (t : ℕ) : sProp 𝕄 :=
  iprop(slotOwn c d s (acc m ρ d t (org d c)) ∗ reached ER (kcell (org d c, .cred d)) t)
/-- What the `k`-th credit hands over: the slot transfer `k + 1` arrives in, and how far its receive cell is. -/
def credPay (c : Dev nD) (d : Bool) (k : ℕ) : sProp 𝕄 :=
  iprop(slotAny (F := F) (tgt d c) d (par k) ∗ reached ER (kcell (tgt d c, .recv d (par k))) ((k + 1) / 2))

instance barPay_storable (c : Dev nD) (d : Bool) : BI.Storable (upEmb : UEmb _ 𝕄) (barPay (F := F) c d) := by unfold barPay; infer_instance
instance recvPay_storable (c : Dev nD) (d s : Bool) (t : ℕ) : BI.Storable (upEmb : UEmb _ 𝕄) (recvPay (F := F) m ρ c d s t) := by unfold recvPay; infer_instance
instance credPay_storable (c : Dev nD) (d : Bool) (k : ℕ) : BI.Storable (upEmb : UEmb _ 𝕄) (credPay (F := F) c d k) := by unfold credPay; infer_instance

/-- The duties of a cell's round. -/
def dutiesK (k : Option Ck) (r : ℕ) : Finset Bool := match k with
  | some .bar => if r = 0 then Finset.univ else ∅
  | some (.send _ s) => if sendHop s r < 31 then {false} else ∅
  | some (.recv _ s) => if recvHop s r < 31 then {false} else ∅
  | some (.cred _) => if r < 30 then {false} else ∅
  | none => ∅

def amountK (k : Option Ck) : ℕ := match k with
  | some (.send _ _) => N
  | some (.recv _ _) => N
  | _ => 1

def payloadK (c : Dev nD) (k : Option Ck) (r : ℕ) (d : Bool) : sProp 𝕄 := match k with
  | some .bar => barPay c d
  | some (.send d s) => slotAny c d s
  | some (.recv d s) => recvPay m ρ c d s (recvHop s r)
  | some (.cred d) => credPay c d r
  | none => iprop(emp)

def ringRd : Rounds.Schedule (GSem nD τ sig) Bool 𝕄 where
  duties g r := if g.1.2 = .tc then dutiesK (kindOf g.2) r else ∅
  unitless _ := False
  amount g _ _ := amountK (kindOf g.2)
  payload g r d := payloadK m ρ g.1.1 (kindOf g.2) r d
  amount_pos g _ _ _ := by
    show 0 < amountK (kindOf g.2)
    unfold amountK
    split <;> first | exact N_pos | exact Nat.one_pos

instance ringRd_payload_storable (g : GSem nD τ sig) (r : ℕ) (d : Bool) :
    BI.Storable (upEmb : UEmb _ 𝕄) ((ringRd (F := F) m ρ).payload g r d) := by
  show BI.Storable upEmb (payloadK m ρ g.1.1 (kindOf g.2) r d)
  unfold payloadK
  split <;> infer_instance

theorem duties_eq (c : Dev nD) (k : Ck) (r : ℕ) : (ringRd (F := F) m ρ).duties (kcell (c, k)) r = dutiesK (some k) r := by
  show (if (kcell (c, k)).1.2 = .tc then dutiesK (kindOf (csem k)) r else ∅) = _
  rw [if_pos rfl, kindOf_csem]
theorem amount_eq (c : Dev nD) (k : Ck) (r : ℕ) (d : Bool) : (ringRd (F := F) m ρ).amount (kcell (c, k)) r d = amountK (some k) := by
  show amountK (kindOf (csem k)) = _
  rw [kindOf_csem]
theorem payload_eq (c : Dev nD) (k : Ck) (r : ℕ) (d : Bool) : (ringRd (F := F) m ρ).payload (kcell (c, k)) r d = payloadK m ρ c (some k) r d := by
  show payloadK m ρ c (kindOf (csem k)) r d = _
  rw [kindOf_csem]

/-- A cell whose round has the one duty `false` expects its amount, -/
theorem expect_one (c : Dev nD) (k : Ck) (r : ℕ) (h : dutiesK (some k) r = {false}) :
    (ringRd (F := F) m ρ).expect (kcell (c, k)) r = amountK (some k) := by
  unfold Schedule.expect Schedule.amountOf
  rw [duties_eq, h, Finset.sum_singleton, amount_eq]
/-- and hands over its payload. -/
theorem rest_one (c : Dev nD) (k : Ck) (r : ℕ) (h : dutiesK (some k) r = {false}) :
    bigSep ((ringRd (F := F) m ρ).duties (kcell (c, k)) r \ ∅) (fun d => (ringRd (F := F) m ρ).payload (kcell (c, k)) r d)
      = payloadK m ρ c (some k) r false := by
  rw [Finset.sdiff_empty, duties_eq, h, bigSep_singleton, payload_eq]

theorem expect_bar (c : Dev nD) : (ringRd (F := F) m ρ).expect (kcell (c, .bar)) 0 = 2 := by
  unfold Schedule.expect Schedule.amountOf
  rw [duties_eq, show dutiesK (some .bar) 0 = Finset.univ from rfl, Finset.sum_congr rfl fun d _ => amount_eq m ρ c .bar 0 d, Finset.sum_const,
    Finset.card_univ, Fintype.card_bool]
  rfl
theorem rest_bar (c : Dev nD) :
    bigSep ((ringRd (F := F) m ρ).duties (kcell (c, .bar)) 0 \ ∅) (fun d => (ringRd (F := F) m ρ).payload (kcell (c, .bar)) 0 d)
      = iprop(barPay c false ∗ barPay c true) := by
  rw [Finset.sdiff_empty, duties_eq, show dutiesK (some .bar) 0 = Finset.univ from rfl,
    bigSep_univ_eq_bigSepL [false, true] (by decide) (by decide), bigSepL_cons_cons, bigSepL_singleton, payload_eq, payload_eq]
  rfl

theorem duties_send (d : Bool) (t : ℕ) (ht : t < 31) : dutiesK (some (.send d (par t))) (t / 2) = {false} := by
  show (if sendHop (par t) (t / 2) < 31 then _ else _) = _
  rw [sendHop_par, if_pos ht]
theorem duties_recv (d : Bool) (t : ℕ) (ht : t < 31) : dutiesK (some (.recv d (!par t))) (t / 2) = {false} := by
  show (if recvHop (!par t) (t / 2) < 31 then _ else _) = _
  rw [recvHop_par, if_pos ht]
theorem duties_cred (d : Bool) (t : ℕ) (ht : t < 30) : dutiesK (some (.cred d)) t = {false} := if_pos ht

/-- The round from which a cell has no duty. -/
def endRound : Ck → ℕ
  | .bar => 1 | .send _ s => if s then 15 else 16 | .recv _ s => if s then 16 else 15 | .cred _ => 30

theorem duties_later (c : Dev nD) (k : Ck) : ∀ r, endRound k ≤ r → (ringRd (F := F) m ρ).duties (kcell (c, k)) r = ∅ := by
  intro r hr
  rw [duties_eq]
  rcases k with _ | ⟨d, s⟩ | ⟨d, s⟩ | d
  · exact if_neg (by simp only [endRound] at hr; omega)
  · exact if_neg (by cases s <;> simp [endRound, sendHop] at hr ⊢ <;> omega)
  · exact if_neg (by cases s <;> simp [endRound, recvHop] at hr ⊢ <;> omega)
  · exact if_neg (by simp only [endRound] at hr; omega)

/-! ## Levels, and what each device owes -/

/-- A transfer and its credit are counted at the transfer's number. -/
def L (g : GSem nD τ sig) : Finset ℕ := if g.1.2 = .tc then Finset.range 31 else ∅

/-- The barrier below every transfer, transfer `u` below its credit, that below transfer `u + 1`; a send at the bottom. -/
def lvK (k : Option Ck) (u : ℕ) : ℕ := match k with
  | some .bar => 1
  | some (.recv _ _) => 2 * u + 2
  | some (.cred _) => 2 * u + 3
  | _ => 0
def lv (g : GSem nD τ sig) (u : ℕ) : ℕ := lvK (kindOf g.2) u

theorem L_of_ne (g : GSem nD τ sig) (h : g.1.2 ≠ .tc) : L g = ∅ := if_neg h
theorem L_tc (c : Dev nD) (sm : SemLoc sig) : L ((c : Thread nD τ), sm) = Finset.range 31 := if_pos rfl
theorem lv_cell (c : Dev nD) (k : Ck) (u : ℕ) : lv (kcell (c, k)) u = lvK (some k) u := by
  show lvK (kindOf (csem k)) u = _
  rw [kindOf_csem]

/-- Everything in a debt is strictly above level `n`. -/
def Above (n : ℕ) (O : CellTallies nD τ sig ℕ) : Prop := ∀ g u, 0 < O g u → u ∈ L g ∧ n < lv g u

theorem Above.zero (n : ℕ) : Above n 0 := fun _ _ h => absurd h (Nat.lt_irrefl 0)
theorem Above.add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.mono {n n' : ℕ} {O : CellTallies nD τ sig ℕ} (h : Above n O) (hn : n' ≤ n) : Above n' O :=
  fun g u hg => ⟨(h g u hg).1, lt_of_le_of_lt hn (h g u hg).2⟩
theorem Above.tally {n : ℕ} {c : Dev nD} {k : Ck} {u a : ℕ} (hu : u < 31) (hn : n < lvK (some k) u) : Above n (tallyAt (kcell (c, k)) u a) :=
  fun g i hg => by
    obtain ⟨rfl, rfl⟩ := Pipeline.tallyAt_pos hg
    exact ⟨by rw [L_tc]; exact Finset.mem_range.mpr hu, by rw [lv_cell]; exact hn⟩
theorem Above.sum {n : ℕ} {S : Finset ℕ} {f : ℕ → CellTallies nD τ sig ℕ} (h : ∀ u ∈ S, Above n (f u)) : Above n (∑ u ∈ S, f u) := by
  classical
  induction S using Finset.induction_on with
  | empty => rw [Finset.sum_empty]; exact Above.zero n
  | insert a S ha ih =>
    rw [Finset.sum_insert ha]
    exact (h a (Finset.mem_insert_self a S)).add (ih fun u hu => h u (Finset.mem_insert_of_mem hu))

/-- A core may wait at a cell's index for what is at a level no higher than everything it owes. -/
theorem mayWait (c : Dev nD) (sm : SemLoc sig) (u n : ℕ) (hu : u < 31) (hn : lv ((c : Thread nD τ), sm) u ≤ n) (O : CellTallies nD τ sig ℕ) (hO : Above n O) :
    (levAts L lv : sProp 𝕄) ⊢ MayWait (c : Thread nD τ) sm u O :=
  MayOwe.of_cut (L := L) (lev := lv) n (fun p hp => by rw [Finset.mem_singleton.mp hp, L_tc]; exact Finset.mem_range.mpr hu)
    (fun g i hg => (hO g i hg).1) (fun p hp => by rw [Finset.mem_singleton.mp hp]; exact hn) (fun g i hg => (hO g i hg).2)

/-- The debt of transfer `t` in direction `d`: the credit of the transfer, at its destination. -/
def rt (d : Bool) (c : Dev nD) (t : ℕ) : CellTallies nD τ sig ℕ := tallyAt (kcell (tgt d c, .recv d (!par t))) t N
/-- The debt of the credit after transfer `t`: one unit, at the device it came from. -/
def ct (d : Bool) (c : Dev nD) (t : ℕ) : CellTallies nD τ sig ℕ := if t < 30 then tallyAt (kcell (org d c, .cred d)) t 1 else 0
/-- The debts of the step of transfer `t`, before its `j`-th payment, beside those of the later steps. -/
def stepDebt (c : Dev nD) (t : ℕ) : ℕ → CellTallies nD τ sig ℕ → CellTallies nD τ sig ℕ
  | 0, O => O + ct true c t + ct false c t + rt true c t + rt false c t
  | 1, O => O + ct true c t + ct false c t + rt true c t
  | 2, O => O + ct true c t + ct false c t
  | 3, O => O + ct true c t
  | _, O => O

/-- The debts of one step. -/
def hopDebt (c : Dev nD) (t : ℕ) : CellTallies nD τ sig ℕ := stepDebt c t 0 0
/-- The debts from step `t` on. -/
def debt (c : Dev nD) (t : ℕ) : CellTallies nD τ sig ℕ := ∑ u ∈ Finset.Ico t 31, hopDebt c u
/-- What a device owes before the `j`-th payment of step `t`. -/
def St (c : Dev nD) (t j : ℕ) : CellTallies nD τ sig ℕ := stepDebt c t j (debt c (t + 1))

theorem debt_step (c : Dev nD) (t : ℕ) (ht : t < 31) : debt c t = St c t 0 := by
  show ∑ u ∈ Finset.Ico t 31, hopDebt c u = debt c (t + 1) + ct true c t + ct false c t + rt true c t + rt false c t
  rw [Ring.sum_Ico_succ ht]
  show 0 + ct true c t + ct false c t + rt true c t + rt false c t + debt c (t + 1) = _
  abel
theorem debt_end (c : Dev nD) : debt c 31 = 0 := by unfold debt; rw [Finset.Ico_self, Finset.sum_empty]

theorem above_rt (d : Bool) (c : Dev nD) (t n : ℕ) (ht : t < 31) (hn : n < 2 * t + 2) : Above n (rt d c t) := Above.tally ht hn
theorem above_ct (d : Bool) (c : Dev nD) (t n : ℕ) (hn : n < 2 * t + 3) : Above n (ct d c t) := by
  unfold ct
  split
  · exact Above.tally (by omega) hn
  · exact Above.zero n
theorem above_debt (c : Dev nD) (t n : ℕ) (hn : n < 2 * t + 2) : Above n (debt c t) :=
  Above.sum fun u hu => by
    have h := Finset.mem_Ico.mp hu
    unfold hopDebt stepDebt
    exact ((((Above.zero n).add (above_ct true c u n (by omega))).add (above_ct false c u n (by omega))).add (above_rt true c u n h.2 (by omega))).add
      (above_rt false c u n h.2 (by omega))
theorem above_St2 (c : Dev nD) (t : ℕ) : Above (2 * t + 2) (St c t 2) :=
  ((above_debt c (t + 1) _ (by omega)).add (above_ct true c t _ (by omega))).add (above_ct false c t _ (by omega))
theorem above_St4 (c : Dev nD) (t : ℕ) : Above (2 * t + 3) (St c t 4) := above_debt c (t + 1) _ (by omega)

/-- After the first barrier signal. -/
def O₁ (c : Dev nD) : CellTallies nD τ sig ℕ := debt c 0 + tallyAt (kcell (rgt c, .bar)) 0 1
/-- What a device owes at launch: the barrier signals to both neighbours and every step. -/
def O₀ (c : Dev nD) : CellTallies nD τ sig ℕ := O₁ c + tallyAt (kcell (lft c, .bar)) 0 1

theorem above_O₀ (c : Dev nD) : Above 0 (O₀ c) :=
  ((above_debt c 0 0 (by omega)).add (Above.tally (by omega) (by decide))).add (Above.tally (by omega) (by decide))

end Cert.KernelIdealProof

end
-- ==== Proof.KernelIdeal.Steps.lean ====
module

public import proofs.«01_k».proof.Proof.KernelIdeal.Cells
public import Idealize.SL.BI.BigOpNat

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Ck → ℕ)

/-! ## What a device holds between two of its effects -/

/-- Every cell's invariant, that every cell has reached round 0, and the levels. -/
def records : sProp 𝕄 :=
  iprop((bigSep Finset.univ fun ck : Dev nD × Ck => cellInv ER (ringRd m ρ) (K ck) (kcell ck))
    ∗ (bigSep Finset.univ fun ck : Dev nD × Ck => reached ER (kcell ck) 0) ∗ levAts L lv)

instance records_persistent : BI.Persistent (records (F := F) m ρ K) := by unfold records; infer_instance

theorem inv_at (ck : Dev nD × Ck) : records m ρ K ⊢ (cellInv ER (ringRd m ρ) (K ck) (kcell ck) : sProp 𝕄) := by
  have h : (bigSep Finset.univ fun ck : Dev nD × Ck => (cellInv ER (ringRd m ρ) (K ck) (kcell ck) : sProp 𝕄)) ⊢ cellInv ER (ringRd m ρ) (K ck) (kcell ck) :=
    bigSep_elim (Finset.mem_univ ck)
  unfold records
  iintro ⟨H, -⟩
  iapply h
  iexact H
theorem reached_at (ck : Dev nD × Ck) : records m ρ K ⊢ (reached ER (kcell ck) 0 : sProp 𝕄) := by
  have h : (bigSep Finset.univ fun ck : Dev nD × Ck => (reached ER (kcell ck) 0 : sProp 𝕄)) ⊢ reached ER (kcell ck) 0 :=
    bigSep_elim (Finset.mem_univ ck)
  unfold records
  iintro ⟨-, H, -⟩
  iapply h
  iexact H
theorem lev_at : records m ρ K ⊢ (levAts L lv : sProp 𝕄) := by
  unfold records
  iintro ⟨-, -, H⟩
  iexact H

/-- What a device owes, whatever waits it has recorded. -/
def ow (c : Dev nD) (O : CellTallies nD τ sig ℕ) : sProp 𝕄 := iprop(∃ W, owes (c : Thread nD τ) O W)

/-- A device's position at a cell of its own. -/
def spot (c : Dev nD) (k : Ck) (r : ℕ) : sProp 𝕄 := iprop(atPos ER (kcell (c, k)) r ∅ 0 ∗ reached ER (kcell (c, k)) r)

/-- The positions at a direction's send and receive cells before transfer `t`. -/
def spots (d : Bool) (t : ℕ) (c : Dev nD) : sProp 𝕄 :=
  iprop(spot c (.send d (par t)) (t / 2) ∗ spot c (.send d (!par t)) ((t + 1) / 2)
    ∗ spot c (.recv d (!par t)) (t / 2) ∗ spot c (.recv d (par t)) ((t + 1) / 2))

/-- What transfer `u` takes: the right to wait for the arrival, and the two duties it discharges. -/
def hopSup (d : Bool) (c : Dev nD) (u : ℕ) : sProp 𝕄 :=
  iprop(cred (tallyAt (kcell (c, .recv d (!par u))) u N) ∗ dutyTok ER (kcell (c, .send d (par u))) (u / 2) false
    ∗ dutyTok ER (kcell (tgt d c, .recv d (!par u))) (u / 2) false)
/-- What credit `k` takes: the right to wait for the neighbour's, and the duty of one's own. -/
def credSup (d : Bool) (c : Dev nD) (k : ℕ) : sProp 𝕄 :=
  iprop(cred (tallyAt (kcell (c, .cred d)) k 1) ∗ dutyTok ER (kcell (org d c, .cred d)) k false)

def sup (d : Bool) (t : ℕ) (c : Dev nD) : sProp 𝕄 := bigSep (Finset.Ico t 31) (hopSup d c)
def csup (d : Bool) (t : ℕ) (c : Dev nD) : sProp 𝕄 := bigSep (Finset.Ico t 30) (credSup d c)

theorem sup_step (d : Bool) (t : ℕ) (c : Dev nD) (ht : t < 31) : (sup d t c : sProp 𝕄) = iprop(hopSup d c t ∗ sup d (t + 1) c) :=
  bigSep_Ico_succ_bot ht _
theorem csup_step (d : Bool) (t : ℕ) (c : Dev nD) (ht : t < 30) : (csup d t c : sProp 𝕄) = iprop(credSup d c t ∗ csup d (t + 1) c) :=
  bigSep_Ico_succ_bot ht _

/-- Before transfer `t`: the running sum in the slot it leaves from, and the slot it arrives in. -/
def Ready (d : Bool) (t : ℕ) (c : Dev nD) : sProp 𝕄 :=
  iprop(spots d t c ∗ spot c (.cred d) t
    ∗ slotOwn c d (par t) (acc m ρ d t c) ∗ slotAny (F := F) (tgt d c) d (!par t) ∗ reached ER (kcell (tgt d c, .recv d (!par t))) (t / 2)
    ∗ sup d t c ∗ csup d t c)
/-- Transfer `t` issued. -/
def Flying (d : Bool) (t : ℕ) (c : Dev nD) : sProp 𝕄 :=
  iprop(spots d t c ∗ spot c (.cred d) t
    ∗ cred (tallyAt (kcell (c, .send d (par t))) t N) ∗ cred (tallyAt (kcell (c, .recv d (!par t))) t N)
    ∗ sup d (t + 1) c ∗ csup d t c)
/-- Transfer `t` has left its slot. -/
def Sent (d : Bool) (t : ℕ) (c : Dev nD) : sProp 𝕄 :=
  iprop((spot c (.send d (par t)) (t / 2 + 1) ∗ spot c (.send d (!par t)) ((t + 1) / 2)
      ∗ spot c (.recv d (!par t)) (t / 2) ∗ spot c (.recv d (par t)) ((t + 1) / 2)) ∗ spot c (.cred d) t
    ∗ slotAny (F := F) c d (par t) ∗ cred (tallyAt (kcell (c, .recv d (!par t))) t N)
    ∗ sup d (t + 1) c ∗ csup d t c)
/-- The neighbour's transfer `t` has arrived; the slot it arrived in holds `V`. -/
def Landed (d : Bool) (t : ℕ) (c : Dev nD) (V : FVec F S1x256x2048 .f32) : sProp 𝕄 :=
  iprop(spots d (t + 1) c ∗ spot c (.cred d) t
    ∗ slotAny (F := F) c d (par t) ∗ slotOwn c d (!par t) V ∗ reached ER (kcell (org d c, .cred d)) t
    ∗ sup d (t + 1) c ∗ csup d t c)
/-- The slot transfer `t` left is lent to the neighbour, and the next running sum is in the other one. -/
def Lent (d : Bool) (t : ℕ) (c : Dev nD) : sProp 𝕄 :=
  iprop(spots d (t + 1) c ∗ spot c (.cred d) t
    ∗ slotOwn c d (!par t) (acc m ρ d (t + 1) c) ∗ cred (tallyAt (kcell (c, .cred d)) t 1)
    ∗ sup d (t + 1) c ∗ csup d (t + 1) c)

theorem spots_next (d : Bool) (t : ℕ) (c : Dev nD) :
    (iprop(spot c (.send d (par t)) (t / 2 + 1) ∗ spot c (.send d (!par t)) ((t + 1) / 2)
      ∗ spot c (.recv d (!par t)) (t / 2 + 1) ∗ spot c (.recv d (par t)) ((t + 1) / 2)) : sProp 𝕄) ⊢ spots d (t + 1) c := by
  unfold spots
  rw [par_succ, Bool.not_not, show (t + 1 + 1) / 2 = t / 2 + 1 by omega]
  iintro ⟨H1, H2, H3, H4⟩
  isplitl [H2]; · iexact H2
  isplitl [H1]; · iexact H1
  isplitl [H4]; · iexact H4
  iexact H3

/-! ## The slots -/

/-- A slot of a device, held by its elements. -/
theorem slotOwn_intro (c : Dev nD) (d s : Bool) (f : Buf (Elt F) ((slot d s).view.loc (c : Thread nD τ))) :
    (((slot d s).view.loc (c : Thread nD τ) ↦[(slot d s).view.set]{fullShare} f) : sProp 𝕄) ⊢ slotOwn c d s ((slot d s).view.read (Elt F) f) := by
  unfold slotOwn
  exact owns_intro (c : Thread nD τ) (slot d s) fullShare f

theorem slotOwn_any (c : Dev nD) (d s : Bool) (V : FVec F S1x256x2048 .f32) : (slotOwn c d s V : sProp 𝕄) ⊢ slotAny (F := F) c d s := by
  unfold slotAny
  iintro H
  iexists V
  iexact H

theorem dslot_set (d s : Bool) : (dslot d s).view.set = (slot d s).view.set := View.set_reshape _ _

/-- What is read back of a slot after a transfer into it is what the transfer read of its source. -/
theorem read_transfer (d s s' : Bool) (fd : (slot d s').view.ty.Contents (Elt F)) (fs : (slot d s).view.ty.Contents (Elt F)) :
    (slot d s').view.read (Elt F) (((slot d s').view.reshape S256x2048 squeezes_S1x256x2048_S256x2048.numel_eq).write (Elt F) fd
        (((slot d s).view.reshape S256x2048 squeezes_S1x256x2048_S256x2048.numel_eq).read (Elt F) fs) Finset.univ)
      = (slot d s).view.read (Elt F) fs := by
  rw [View.write_reshape_univ, View.read_write_univ]
  funext x
  show (slot d s).view.read (Elt F) fs ((Shape.reshapeEquiv _) ((Shape.reshapeEquiv _).symm x)) = _
  rw [Equiv.apply_symm_apply]

/-! ## One rule for each effect of a step -/

section Rules

variable {α : Type} (c : Dev nD)

/-- A transfer is issued. -/
theorem step_send {Q : α → sProp 𝕄} (d : Bool) (t : ℕ) (ht : t < 31) (O₀ O : CellTallies nD τ sig ℕ) (hO : O₀ = O + rt d c t)
    (n : Dev nD) (hn : n = tgt d c) (src dst : Memref sig .tc .vmem S256x2048 .f32) (hsrc' : src = dslot d (par t)) (hdst' : dst = dslot d (!par t))
    (ss rs : DmaSem sig) (hss : ss = sendS d (par t)) (hrs : rs = recvS d (!par t))
    {hsc : dst.view.ref.isScScratch = false} {hsrc : src.view.WordExact} {hdst : dst.view.WordExact}
    {hsem : DmaTarget.Typed .vmem (.dma rs) (.remote (Dev.tc n : Thread nD τ) (dst : Memref sig (Dev.tc n : Thread nD τ).2.kind .vmem S256x2048 .f32) (.dma ss) hsc)}
    {k : PUnit → Prog (TpuEff nD τ sig (Elt F) Λ₀ .tc) α} :
    iprop(records m ρ K ∗ Ready m ρ d t c ∗ ow c O₀)
      ⊢ iprop(((Flying d t c ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma ss) hsc) (.dma rs) hsrc hdst hsem) k) Q) := by
  subst hn hsrc' hdst' hss hrs
  unfold Ready Flying ow
  rw [sup_step d t c ht]
  unfold spots hopSup spot slotOwn slotAny slotOwn owns
  iintro ⟨#HR, ⟨⟨⟨HaS, #HrS⟩, Hsp⟩, ⟨HaC, #HrC⟩, ⟨%fs, %hfs, Hsrc⟩, ⟨%V, %fd, %hfd, Hdst⟩, #HrT, ⟨⟨HcR, HtS, HtR⟩, Hsup⟩, Hcsup⟩, ⟨%W, HO⟩⟩ Hk
  have hd₁ : false ∈ (ringRd m ρ).duties ((c : Thread nD τ), .dma (sendS d (par t))) (t / 2) := by
    show false ∈ (ringRd m ρ).duties (kcell (c, .send d (par t))) (t / 2)
    rw [duties_eq, duties_send d t ht]; exact Finset.mem_singleton_self _
  have hd₂ : false ∈ (ringRd m ρ).duties ((tgt d c : Thread nD τ), .dma (recvS d (!par t))) (t / 2) := by
    show false ∈ (ringRd m ρ).duties (kcell (tgt d c, .recv d (!par t))) (t / 2)
    rw [duties_eq, duties_recv d t ht]; exact Finset.mem_singleton_self _
  have hN : (dslot d (!par t)).view.amount (.dma (recvS d (!par t))) = N := credit_eq d (!par t)
  have hk₁ : (ringRd m ρ).amount ((c : Thread nD τ), .dma (sendS d (par t))) (t / 2) false = N := amount_eq m ρ c (.send d (par t)) (t / 2) false
  have hk₂ : (ringRd m ρ).amount ((tgt d c : Thread nD τ), .dma (recvS d (!par t))) (t / 2) false = N :=
    amount_eq m ρ (tgt d c) (.recv d (!par t)) (t / 2) false
  have hO' : O₀ = O + tallyAt ((tgt d c : Thread nD τ), .dma (recvS d (!par t))) t N := hO
  have hr : τ.routes (c : Thread nD τ) (tgt d c : Thread nD τ) = true := by routes
  have hp₁ : (((dslot d (par t)).view.loc (c : Thread nD τ) ↦[(dslot d (par t)).view.set]{fullShare} fs) : sProp 𝕄)
      ⊢ (ringRd m ρ).payload ((c : Thread nD τ), .dma (sendS d (par t))) (t / 2) false := by
    show _ ⊢ (ringRd m ρ).payload (kcell (c, .send d (par t))) (t / 2) false
    rw [payload_eq]
    show _ ⊢ slotAny c d (par t)
    rw [dslot_set]
    exact (slotOwn_intro c d (par t) fs).trans (slotOwn_any c d (par t) _)
  have hp₂ : (iprop(((dslot d (!par t)).view.loc (tgt d c : Thread nD τ) ↦[(dslot d (!par t)).view.set]{fullShare}
        ((dslot d (!par t)).view.write (Elt F) fd ((dslot d (par t)).view.read (Elt F) fs) Finset.univ)) ∗ reached ER (kcell (c, .cred d)) t) : sProp 𝕄)
      ⊢ (ringRd m ρ).payload ((tgt d c : Thread nD τ), .dma (recvS d (!par t))) (t / 2) false := by
    show _ ⊢ (ringRd m ρ).payload (kcell (tgt d c, .recv d (!par t))) (t / 2) false
    rw [payload_eq]
    show _ ⊢ recvPay m ρ (tgt d c) d (!par t) (recvHop (!par t) (t / 2))
    unfold recvPay
    rw [recvHop_par, org_tgt, dslot_set, ← hfs, ← read_transfer d (par t) (!par t) fd fs]
    exact sep_mono_left (slotOwn_intro (tgt d c) d (!par t) _)
  iapply (Rounds.wp_send_pointsTo_with 𝒱₀ ER (ringRd m ρ) (c : Thread nD τ) none (c' := (tgt d c : Thread nD τ)) (src := dslot d (par t)) (dst := dslot d (!par t))
    (sS := .dma (sendS d (par t))) (sem := .dma (recvS d (!par t))) (κ₁ := K (c, .send d (par t))) (κ₂ := K (tgt d c, .recv d (!par t)))
    (r₁ := t / 2) (r₂ := t / 2) (d₁ := false) (d₂ := false) (fs := fs) (fd := fd) (q := fullShare)
    (F := reached ER (kcell (c, .cred d)) t) hd₁ hd₂ t t N hN hk₁ hk₂ O hO' (W := W) hp₁ hp₂ (hr := hr)) $$ [Hsrc Hdst HO HtS HtR]
  · isplitr; · iapply (inv_at m ρ K (c, .send d (par t))); iexact HR
    isplitr; · iapply (inv_at m ρ K (tgt d c, .recv d (!par t))); iexact HR
    isplitl [Hsrc]; · rw [dslot_set]; iexact Hsrc
    isplitl [Hdst]
    · isplitl [Hdst]; · rw [dslot_set]; iexact Hdst
      iexact HrC
    isplitl [HO]; · iexact HO
    isplitl [HtS]; · iexact HtS
    isplitr; · iexact HrS
    isplitl [HtR]; · iexact HtR
    iexact HrT
  iintro ⟨HcS, HO⟩
  iapply Hk
  isplitr [HO]
  · isplitl [HaS Hsp]
    · isplitl [HaS]
      · isplitl [HaS]; · iexact HaS
        iexact HrS
      iexact Hsp
    isplitl [HaC]
    · isplitl [HaC]; · iexact HaC
      iexact HrC
    isplitl [HcS]; · iexact HcS
    isplitl [HcR]; · iexact HcR
    isplitl [Hsup] <;> iassumption
  iexists W
  iexact HO

/-- A wait for the one round open at a cell of the device. -/
theorem wait_one {Q : α → sProp 𝕄} (k' : Ck) (R u n a : ℕ) {w : TpuEff nD τ sig (Elt F) Λ₀ .tc PUnit}
    (hw : ∀ J : PUnit → sProp 𝕄, wpE (defs₀ (F := F)) 𝒱₀ (c : Thread nD τ) none Set.univ w J = waitSpec (c : Thread nD τ) Set.univ (csem k') a J)
    (ha : a = amountK (some k')) (hd : dutiesK (some k') R = {false}) (hu : u < 31) (hn : lvK (some k') u ≤ n)
    (O : CellTallies nD τ sig ℕ) (hO : Above n O) {k : PUnit → Prog (TpuEff nD τ sig (Elt F) Λ₀ .tc) α} :
    iprop(records m ρ K ∗ spot c k' R ∗ cred (tallyAt (kcell (c, k')) u a) ∗ ow c O)
      ⊢ iprop(((spot c k' (R + 1) ∗ payloadK m ρ c (some k') R false ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hk : 0 + a = (ringRd (F := F) m ρ).expect ((c : Thread nD τ), csem k') R := by
    rw [Nat.zero_add, ha]; exact (expect_one m ρ c k' R hd).symm
  have hm : (levAts L lv : sProp 𝕄) ⊢ MayWait (c : Thread nD τ) (csem k') u O := mayWait c (csem k') u n hu ((lv_cell c k' u).trans_le hn) O hO
  unfold ow spot
  iintro ⟨#HR, ⟨Hat, -⟩, Hc, ⟨%W, HO⟩⟩ Hk
  iapply (Rounds.wp_wait_rest_token 𝒱₀ ER (ringRd m ρ) (c : Thread nD τ) none (κ := K (c, k')) hw (Set.mem_univ _) u (O := O) (W := W) (R := R) (m := 0) (T := ∅) hk)
    $$ [Hc HO Hat]
  · isplitr; · iapply (inv_at m ρ K (c, k')); iexact HR
    isplitl [Hc]; · iexact Hc
    isplitl [HO]; · iexact HO
    isplitr; · iapply hm; iapply (lev_at m ρ K); iexact HR
    iexact Hat
  iintro ⟨HO, Hat, #Hr, Hpay⟩
  ihave Hp := (Entails.of_eq (rest_one m ρ c k' R hd)) $$ Hpay
  iapply Hk
  isplitl [Hat]
  · isplitl [Hat]; · iexact Hat
    iexact Hr
  isplitl [Hp]; · iexact Hp
  iexists (insert (csem k', u) W)
  iexact HO

/-- The wait for a transfer to have left. -/
theorem step_sendWait {Q : α → sProp 𝕄} (d : Bool) (t : ℕ) (ht : t < 31) (O : CellTallies nD τ sig ℕ) (hO : Above 0 O)
    (ss : DmaSem sig) (hss : ss = sendS d (par t)) (m₁ m₂ : Memref sig .tc .vmem S256x2048 .f32) (hm₂ : m₂.view.dmaCredit = N)
    {h₁ : m₁.view.WordExact} {h₂ : m₂.view.WordExact} {k : PUnit → Prog (TpuEff nD τ sig (Elt F) Λ₀ .tc) α} :
    iprop(records m ρ K ∗ Flying d t c ∗ ow c O)
      ⊢ iprop(((Sent d t c ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ss m₁ m₂ h₁ h₂) k) Q) := by
  subst hss
  have hw := wpE_waitDma2_eq (Ix := ℕ) (Name := ℕ) (U := UU) (Lvl := ℕ) (defs := defs₀ (F := F)) (sem := sendS d (par t)) (src := m₁) (dst := m₂) (hsrc := h₁) (hdst := h₂) 𝒱₀ (c : Thread nD τ) none Set.univ
  rw [hm₂] at hw
  have hW := wait_one m ρ K c (Q := Q) (.send d (par t)) (t / 2) t 0 N (k := k) hw rfl (duties_send d t ht) ht (Nat.le_refl 0) O hO
  have hp : payloadK m ρ c (some (.send d (par t))) (t / 2) false = (slotAny (F := F) c d (par t) : sProp 𝕄) := rfl
  rw [hp] at hW
  unfold Flying Sent spots
  iintro ⟨#HR, ⟨⟨Hs, Hs', Hv, Hv'⟩, Hcr, HcS, HcR, Hsup, Hcsup⟩, HO⟩ Hk
  iapply hW $$ [Hs HcS HO]
  · isplitr; · iexact HR
    isplitl [Hs]; · iexact Hs
    isplitl [HcS]; · iexact HcS
    iexact HO
  iintro ⟨Hs, Hp, HO⟩
  iapply Hk
  isplitr [HO]
  · isplitl [Hs Hs' Hv Hv']
    · isplitl [Hs]; · iexact Hs
      isplitl [Hs']; · iexact Hs'
      isplitl [Hv] <;> iassumption
    isplitl [Hcr]; · iexact Hcr
    isplitl [Hp]; · iexact Hp
    isplitl [HcR]; · iexact HcR
    isplitl [Hsup] <;> iassumption
  iexact HO

/-- The wait for the neighbour's transfer. -/
theorem step_recvWait {Q : α → sProp 𝕄} (d : Bool) (t : ℕ) (ht : t < 31) (O : CellTallies nD τ sig ℕ) (hO : Above (2 * t + 2) O)
    (rs : DmaSem sig) (hrs : rs = recvS d (!par t)) (m₁ m₂ : Memref sig .tc .vmem S256x2048 .f32) (hm₂ : m₂.view.dmaCredit = N)
    {h₁ : m₁.view.WordExact} {h₂ : m₂.view.WordExact} {k : PUnit → Prog (TpuEff nD τ sig (Elt F) Λ₀ .tc) α} :
    iprop(records m ρ K ∗ Sent d t c ∗ ow c O)
      ⊢ iprop(((Landed d t c (acc m ρ d t (org d c)) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs m₁ m₂ h₁ h₂) k) Q) := by
  subst hrs
  have hw := wpE_waitDma2_eq (Ix := ℕ) (Name := ℕ) (U := UU) (Lvl := ℕ) (defs := defs₀ (F := F)) (sem := recvS d (!par t)) (src := m₁) (dst := m₂) (hsrc := h₁) (hdst := h₂) 𝒱₀ (c : Thread nD τ) none Set.univ
  rw [hm₂] at hw
  have hW := wait_one m ρ K c (Q := Q) (.recv d (!par t)) (t / 2) t (2 * t + 2) N (k := k) hw rfl (duties_recv d t ht) ht (Nat.le_refl _) O hO
  have hp : payloadK m ρ c (some (.recv d (!par t))) (t / 2) false = (iprop(slotOwn c d (!par t) (acc m ρ d t (org d c)) ∗ reached ER (kcell (org d c, .cred d)) t) : sProp 𝕄) := by
    show recvPay m ρ c d (!par t) (recvHop (!par t) (t / 2)) = _
    rw [recvHop_par]
    rfl
  rw [hp] at hW
  unfold Sent Landed
  iintro ⟨#HR, ⟨⟨Hs, Hs', Hv, Hv'⟩, Hcr, Ha, HcR, Hsup, Hcsup⟩, HO⟩ Hk
  iapply hW $$ [Hv HcR HO]
  · isplitr; · iexact HR
    isplitl [Hv]; · iexact Hv
    isplitl [HcR]; · iexact HcR
    iexact HO
  iintro ⟨Hv, ⟨Hown, Hr⟩, HO⟩
  iapply Hk
  isplitr [HO]
  · isplitl [Hs Hs' Hv Hv']
    · iapply (spots_next d t c)
      isplitl [Hs]; · iexact Hs
      isplitl [Hs']; · iexact Hs'
      isplitl [Hv] <;> iassumption
    isplitl [Hcr]; · iexact Hcr
    isplitl [Ha]; · iexact Ha
    isplitl [Hown]; · iexact Hown
    isplitl [Hr]; · iexact Hr
    isplitl [Hsup] <;> iassumption
  iexact HO

/-- The wait for the neighbour's credit. -/
theorem step_credWait {Q : α → sProp 𝕄} (d : Bool) (t : ℕ) (ht : t < 30) (O : CellTallies nD τ sig ℕ) (hO : Above (2 * t + 3) O)
    (s : Sem sig) (hs : s = credS d) (a : ℕ) (ha : a = 1) {k : PUnit → Prog (TpuEff nD τ sig (Elt F) Λ₀ .tc) α} :
    iprop(records m ρ K ∗ Lent m ρ d t c ∗ ow c O)
      ⊢ iprop(((Ready m ρ d (t + 1) c ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s a) k) Q) := by
  subst hs ha
  have hW := wait_one m ρ K c (Q := Q) (.cred d) t t (2 * t + 3) 1 (k := k) (wpE_semWait_eq 𝒱₀ (c : Thread nD τ) none Set.univ) rfl (duties_cred d t ht) (by omega) (Nat.le_refl _) O hO
  have hp : payloadK m ρ c (some (.cred d)) t false = (iprop(slotAny (F := F) (tgt d c) d (par t) ∗ reached ER (kcell (tgt d c, .recv d (par t))) ((t + 1) / 2)) : sProp 𝕄) := rfl
  rw [hp] at hW
  unfold Lent Ready
  rw [par_succ, Bool.not_not]
  iintro ⟨#HR, ⟨Hsp, Hcr, Hown, Hc, Hsup, Hcsup⟩, HO⟩ Hk
  iapply hW $$ [Hcr Hc HO]
  · isplitr; · iexact HR
    isplitl [Hcr]; · iexact Hcr
    isplitl [Hc]; · iexact Hc
    iexact HO
  iintro ⟨Hcr, ⟨Ha, Hr⟩, HO⟩
  iapply Hk
  isplitr [HO]
  · isplitl [Hsp]; · iexact Hsp
    isplitl [Hcr]; · iexact Hcr
    isplitl [Hown]; · iexact Hown
    isplitl [Ha]; · iexact Ha
    isplitl [Hr]; · iexact Hr
    isplitl [Hsup] <;> iassumption
  iexact HO

/-- The credit for the slot a transfer left. -/
theorem step_credSignal {Q : α → sProp 𝕄} (d : Bool) (t : ℕ) (ht : t < 30) (O₀ O : CellTallies nD τ sig ℕ) (hO : O₀ = O + ct d c t)
    (n : Dev nD) (hn : n = org d c) (s : Sem sig) (hs : s = credS d) (a : ℕ) (ha : a = 1) {k : PUnit → Prog (TpuEff nD τ sig (Elt F) Λ₀ .tc) α} :
    iprop(records m ρ K ∗ Landed d t c (acc m ρ d (t + 1) c) ∗ ow c O₀)
      ⊢ iprop(((Lent m ρ d t c ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) s a) k) Q) := by
  subst hn hs ha
  have hd : false ∈ (ringRd m ρ).duties ((org d c : Thread nD τ), .reg (credS d)) t := by
    show false ∈ (ringRd m ρ).duties (kcell (org d c, .cred d)) t
    rw [duties_eq, duties_cred d t ht]; exact Finset.mem_singleton_self _
  have hk : (ringRd m ρ).amount ((org d c : Thread nD τ), .reg (credS d)) t false = 1 := amount_eq m ρ (org d c) (.cred d) t false
  have hO' : O₀ = O + tallyAt ((org d c : Thread nD τ), .reg (credS d)) t 1 := by
    rw [hO]; unfold ct; rw [if_pos ht]; rfl
  have hp : (iprop(slotAny (F := F) c d (par t) ∗ reached ER (kcell (c, .recv d (par t))) ((t + 1) / 2)) : sProp 𝕄)
      ⊢ (ringRd m ρ).payload ((org d c : Thread nD τ), .reg (credS d)) t false := by
    show _ ⊢ (ringRd m ρ).payload (kcell (org d c, .cred d)) t false
    rw [payload_eq]
    show _ ⊢ credPay (org d c) d t
    unfold credPay
    rw [tgt_org]
  unfold Landed Lent ow
  rw [csup_step d t c ht]
  unfold spots credSup
  rw [par_succ, Bool.not_not]
  unfold spot
  iintro ⟨#HR, ⟨⟨Hs, Hs', ⟨Hv, #Hrv⟩, Hv'⟩, Hcr, Ha, Hown, #Hr, Hsup, ⟨Hc, Ht⟩, Hcsup⟩, ⟨%W, HO⟩⟩ Hk
  iapply (Rounds.wp_signal 𝒱₀ ER (ringRd m ρ) (c : Thread nD τ) none (dst := (org d c : Thread nD τ)) (κ := K (org d c, .cred d)) (d := false) hd hk t O hO' (W := W))
    $$ [HO Ht Ha]
  · isplitr; · iapply (inv_at m ρ K (org d c, .cred d)); iexact HR
    isplitl [HO]; · iexact HO
    isplitl [Ht]; · iexact Ht
    isplitl [Ha]
    · iapply hp
      isplitl [Ha]; · iexact Ha
      iexact Hrv
    iexact Hr
  iintro HO
  iapply Hk
  isplitr [HO]
  · isplitl [Hs Hs' Hv Hv']
    · isplitl [Hs]; · iexact Hs
      isplitl [Hs']; · iexact Hs'
      isplitl [Hv]
      · isplitl [Hv]; · iexact Hv
        iexact Hrv
      iexact Hv'
    isplitl [Hcr]; · iexact Hcr
    isplitl [Hown]; · iexact Hown
    isplitl [Hc]; · iexact Hc
    isplitl [Hsup] <;> iassumption
  iexists W
  iexact HO

/-- A signal to a neighbour's barrier. -/
theorem step_barSignal {Q : α → sProp 𝕄} (d : Bool) (O₀ O : CellTallies nD τ sig ℕ) (hO : O₀ = O + tallyAt (kcell (org d c, .bar)) 0 1)
    (n : Dev nD) (hn : n = org d c) (s : Sem sig) (hs : s = barS) (a : ℕ) (ha : a = 1) {k : PUnit → Prog (TpuEff nD τ sig (Elt F) Λ₀ .tc) α} :
    iprop(records m ρ K ∗ (dutyTok ER (kcell (org d c, .bar)) 0 d ∗ slotAny (F := F) c d true) ∗ ow c O₀)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) s a) k) Q) := by
  subst hn hs ha
  have hd : d ∈ (ringRd m ρ).duties ((org d c : Thread nD τ), .reg barS) 0 := by
    show d ∈ (ringRd m ρ).duties (kcell (org d c, .bar)) 0
    rw [duties_eq]; exact Finset.mem_univ d
  have hk : (ringRd m ρ).amount ((org d c : Thread nD τ), .reg barS) 0 d = 1 := amount_eq m ρ (org d c) .bar 0 d
  have hp : (iprop(slotAny (F := F) c d true ∗ reached ER (kcell (c, .recv d true)) 0) : sProp 𝕄)
      ⊢ (ringRd m ρ).payload ((org d c : Thread nD τ), .reg barS) 0 d := by
    show _ ⊢ (ringRd m ρ).payload (kcell (org d c, .bar)) 0 d
    rw [payload_eq]
    show _ ⊢ barPay (org d c) d
    unfold barPay
    rw [tgt_org]
  unfold ow
  iintro ⟨#HR, ⟨Ht, Ha⟩, ⟨%W, HO⟩⟩ Hk
  iapply (Rounds.wp_signal 𝒱₀ ER (ringRd m ρ) (c : Thread nD τ) none (dst := (org d c : Thread nD τ)) (κ := K (org d c, .bar)) (d := d) hd hk 0 O hO (W := W))
    $$ [HO Ht Ha]
  · isplitr; · iapply (inv_at m ρ K (org d c, .bar)); iexact HR
    isplitl [HO]; · iexact HO
    isplitl [Ht]; · iexact Ht
    isplitl [Ha]
    · iapply hp
      isplitl [Ha]; · iexact Ha
      iapply (reached_at m ρ K (c, .recv d true)); iexact HR
    iapply (reached_at m ρ K (org d c, .bar)); iexact HR
  iintro HO
  iapply Hk
  iexists W
  iexact HO

/-- The wait for both neighbours at the barrier. -/
theorem step_barWait {Q : α → sProp 𝕄} (O : CellTallies nD τ sig ℕ) (hO : Above 1 O) (s : Sem sig) (hs : s = barS) (a : ℕ) (ha : a = 2)
    {k : PUnit → Prog (TpuEff nD τ sig (Elt F) Λ₀ .tc) α} :
    iprop(records m ρ K ∗ (spot c .bar 0 ∗ cred (tallyAt (kcell (c, .bar)) 0 2)) ∗ ow c O)
      ⊢ iprop(((spot c .bar 1 ∗ (barPay c false ∗ barPay c true) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s a) k) Q) := by
  subst hs ha
  have hk : 0 + 2 = (ringRd (F := F) m ρ).expect ((c : Thread nD τ), .reg barS) 0 := (expect_bar m ρ c).symm
  have hm : (levAts L lv : sProp 𝕄) ⊢ MayWait (c : Thread nD τ) (.reg barS) 0 O := mayWait c (csem .bar) 0 1 (by omega) ((lv_cell c .bar 0).trans_le (Nat.le_refl _)) O hO
  unfold ow spot
  iintro ⟨#HR, ⟨⟨Hat, -⟩, Hc⟩, ⟨%W, HO⟩⟩ Hk
  iapply (Rounds.wp_wait_rest_token 𝒱₀ ER (ringRd m ρ) (c : Thread nD τ) none (κ := K (c, .bar)) (wpE_semWait_eq 𝒱₀ (c : Thread nD τ) none Set.univ) (Set.mem_univ _) 0
      (O := O) (W := W) (R := 0) (m := 0) (T := ∅) hk) $$ [Hc HO Hat]
  · isplitr; · iapply (inv_at m ρ K (c, .bar)); iexact HR
    isplitl [Hc]; · iexact Hc
    isplitl [HO]; · iexact HO
    isplitr; · iapply hm; iapply (lev_at m ρ K); iexact HR
    iexact Hat
  iintro ⟨HO, Hat, #Hr, Hpay⟩
  ihave Hp := (Entails.of_eq (show bigSep ((ringRd (F := F) m ρ).duties ((c : Thread nD τ), .reg barS) 0 \ ∅)
    (fun d => (ringRd (F := F) m ρ).payload ((c : Thread nD τ), .reg barS) 0 d) = _ from rest_bar m ρ c)) $$ Hpay
  iapply Hk
  isplitl [Hat]
  · isplitl [Hat]; · iexact Hat
    iexact Hr
  isplitl [Hp]; · iexact Hp
  iexists (insert (SemLoc.reg barS, 0) W)
  iexact HO

/-- A load of a slot. -/
theorem slot_load {Q : α → sProp 𝕄} (d s : Bool) (V : FVec F S1x256x2048 .f32) (b : Memref sig .tc .vmem S2x256x2048 .f32) (hb : b = M d)
    (off : Fin 3 → ℕ) (hoff : off = slotOff s) (inb : ∀ a, off a + S1x256x2048.size a ≤ S2x256x2048.size a)
    {hl : b.view.LoadsAt (Rect.unit (s := S2x256x2048) off S1x256x2048.size inb).toLoadRect} {k : Vec F S1x256x2048 .f32 → Prog (TpuEff nD τ sig (Elt F) Λ₀ .tc) α} :
    (slotOwn c d s V : sProp 𝕄)
      ⊢ iprop((slotOwn c d s V -∗ wp frame (wpE (defs₀ (F := F)) 𝒱₀ (c : Thread nD τ) none) Set.univ (k V) Q)
          -∗ wp frame (wpE (defs₀ (F := F)) 𝒱₀ (c : Thread nD τ) none) Set.univ
              (.op (.load b (Rect.unit (s := S2x256x2048) off S1x256x2048.size inb).toLoadRect hl) k) Q) := by
  subst hb hoff
  unfold slotOwn owns
  iintro ⟨%f, %hf, H⟩ Hk
  iapply (wp_load_rect 𝒱₀ (c : Thread nD τ) none Set.univ (m := M d) (r := slotR s) (S := (slot d s).view.set) (f := f) (Finset.Subset.refl _)) $$ H
  iintro H
  subst hf
  iapply Hk
  iexists f
  isplitr; · (ipureintro; rfl)
  iexact H

/-- A store into a slot. -/
theorem slot_store {Q : α → sProp 𝕄} (d s : Bool) (w : FVec F S1x256x2048 .f32) (b : Memref sig .tc .vmem S2x256x2048 .f32) (hb : b = M d)
    (off : Fin 3 → ℕ) (hoff : off = slotOff s) (inb : ∀ a, off a + S1x256x2048.size a ≤ S2x256x2048.size a)
    {hx : (b.access (Rect.unit (s := S2x256x2048) off S1x256x2048.size inb)).Stores Finset.univ}
    {hm : Finset.univ = Finset.univ ∨ ∀ a, (Rect.unit (s := S2x256x2048) off S1x256x2048.size inb).stride a = 1}
    {k : PUnit → Prog (TpuEff nD τ sig (Elt F) Λ₀ .tc) α} :
    (slotAny (F := F) c d s : sProp 𝕄)
      ⊢ iprop((slotOwn c d s w -∗ wp frame (wpE (defs₀ (F := F)) 𝒱₀ (c : Thread nD τ) none) Set.univ (k ⟨⟩) Q)
          -∗ wp frame (wpE (defs₀ (F := F)) 𝒱₀ (c : Thread nD τ) none) Set.univ
              (.op (.store b (Rect.unit (s := S2x256x2048) off S1x256x2048.size inb) w Finset.univ hx hm) k) Q) := by
  subst hb hoff
  unfold slotAny slotOwn owns
  iintro ⟨%V, %f, %hf, H⟩ Hk
  iapply (wp_store 𝒱₀ (c : Thread nD τ) none Set.univ (m := M d) (r := slotR s) (Mk := Finset.univ) (S := (slot d s).view.set) (f := f) (View.setOn_subset_set _ _)) $$ H
  iintro H
  iapply Hk
  iexists _
  isplitr; swap; · iexact H
  ipureintro
  exact View.read_write_univ f w

/-- A load of the rows of `x` for step `n`. -/
theorem x_load {Q : α → sProp 𝕄} (d : Bool) (n : ℕ) (off : Fin 2 → ℕ) (hoff : off = ![256 * row d n c, 0]) (inb : ∀ a, off a + S256x256.size a ≤ S8192x256.size a)
    {hl : (Memref.whole cc0_stg0_0 : Memref sig .tc .vmem S8192x256 .f32).view.LoadsAt (Rect.unit (s := S8192x256) off S256x256.size inb).toLoadRect}
    {k : Vec F S256x256 .f32 → Prog (TpuEff nD τ sig (Elt F) Λ₀ .tc) α} :
    (((c : Thread nD τ).loc cc0_stg0_0 ↦{fullShare} xstg m ρ c) : sProp 𝕄)
      ⊢ iprop((((c : Thread nD τ).loc cc0_stg0_0 ↦{fullShare} xstg m ρ c) -∗ wp frame (wpE (defs₀ (F := F)) 𝒱₀ (c : Thread nD τ) none) Set.univ (k (xrows m ρ d n c)) Q)
          -∗ wp frame (wpE (defs₀ (F := F)) 𝒱₀ (c : Thread nD τ) none) Set.univ
              (.op (.load (Memref.whole cc0_stg0_0) (Rect.unit (s := S8192x256) off S256x256.size inb).toLoadRect hl) k) Q) := by
  subst hoff
  exact wp_load 𝒱₀ (c : Thread nD τ) none Set.univ (m := Memref.whole cc0_stg0_0) (Finset.subset_univ _)

/-- A load of a direction's half of `w`. -/
theorem w_load {Q : α → sProp 𝕄} (d : Bool) (off : Fin 2 → ℕ) (hoff : off = halfOff d) (inb : ∀ a, off a + S256x2048.size a ≤ S256x4096.size a)
    {hl : (Memref.whole cc0_stg1_0 : Memref sig .tc .vmem S256x4096 .f32).view.LoadsAt (Rect.unit (s := S256x4096) off S256x2048.size inb).toLoadRect}
    {k : Vec F S256x2048 .f32 → Prog (TpuEff nD τ sig (Elt F) Λ₀ .tc) α} :
    (((c : Thread nD τ).loc cc0_stg1_0 ↦{fullShare} wstg m ρ c) : sProp 𝕄)
      ⊢ iprop((((c : Thread nD τ).loc cc0_stg1_0 ↦{fullShare} wstg m ρ c) -∗ wp frame (wpE (defs₀ (F := F)) 𝒱₀ (c : Thread nD τ) none) Set.univ (k (whalf m ρ d c)) Q)
          -∗ wp frame (wpE (defs₀ (F := F)) 𝒱₀ (c : Thread nD τ) none) Set.univ
              (.op (.load (Memref.whole cc0_stg1_0) (Rect.unit (s := S256x4096) off S256x2048.size inb).toLoadRect hl) k) Q) := by
  subst hoff
  exact wp_load 𝒱₀ (c : Thread nD τ) none Set.univ (m := Memref.whole cc0_stg1_0) (Finset.subset_univ _)

end Rules

end Cert.KernelIdealProof

end
-- ==== Proof.KernelIdeal.Hop.lean ====
module

public import proofs.«01_k».proof.Proof.KernelIdeal.Steps

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Ck → ℕ)

theorem cur {A B C R : sProp 𝕄} (h : iprop(A ∗ B ∗ C) ⊢ R) : A ⊢ iprop(B -∗ C -∗ R) := by
  iintro HA HB HC
  iapply h
  isplitl [HA]; · iexact HA
  isplitl [HB] <;> iassumption

/-- The staged blocks of `x` and `w`. -/
def ins (c : Dev nD) : sProp 𝕄 :=
  iprop(((c : Thread nD τ).loc cc0_stg0_0 ↦{fullShare} xstg m ρ c) ∗ ((c : Thread nD τ).loc cc0_stg1_0 ↦{fullShare} wstg m ρ c))

section Rules

variable {α : Type} (c : Dev nD)

/-- A load of the slot a transfer arrived in. -/
theorem landed_load {Q : α → sProp 𝕄} (d : Bool) (t : ℕ) (V : FVec F S1x256x2048 .f32) (b : Memref sig .tc .vmem S2x256x2048 .f32) (hb : b = M d)
    (off : Fin 3 → ℕ) (hoff : off = slotOff (!par t)) (inb : ∀ a, off a + S1x256x2048.size a ≤ S2x256x2048.size a)
    {hl : b.view.LoadsAt (Rect.unit (s := S2x256x2048) off S1x256x2048.size inb).toLoadRect} {k : Vec F S1x256x2048 .f32 → Prog (TpuEff nD τ sig (Elt F) Λ₀ .tc) α} :
    (Landed d t c V : sProp 𝕄)
      ⊢ iprop((Landed d t c V -∗ wp frame (wpE (defs₀ (F := F)) 𝒱₀ (c : Thread nD τ) none) Set.univ (k V) Q)
          -∗ wp frame (wpE (defs₀ (F := F)) 𝒱₀ (c : Thread nD τ) none) Set.univ
              (.op (.load b (Rect.unit (s := S2x256x2048) off S1x256x2048.size inb).toLoadRect hl) k) Q) := by
  unfold Landed
  iintro ⟨H1, H2, H3, H4, H5⟩ Hk
  iapply (slot_load c d (!par t) V b hb off hoff inb) $$ H4
  iintro H4
  iapply Hk
  isplitl [H1]; · iexact H1
  isplitl [H2]; · iexact H2
  isplitl [H3]; · iexact H3
  isplitl [H4] <;> iassumption

/-- A store into the slot a transfer arrived in. -/
theorem landed_store {Q : α → sProp 𝕄} (d : Bool) (t : ℕ) (V w : FVec F S1x256x2048 .f32) (b : Memref sig .tc .vmem S2x256x2048 .f32) (hb : b = M d)
    (off : Fin 3 → ℕ) (hoff : off = slotOff (!par t)) (inb : ∀ a, off a + S1x256x2048.size a ≤ S2x256x2048.size a)
    {hx : (b.access (Rect.unit (s := S2x256x2048) off S1x256x2048.size inb)).Stores Finset.univ}
    {hm : Finset.univ = Finset.univ ∨ ∀ a, (Rect.unit (s := S2x256x2048) off S1x256x2048.size inb).stride a = 1}
    {k : PUnit → Prog (TpuEff nD τ sig (Elt F) Λ₀ .tc) α} :
    (Landed d t c V : sProp 𝕄)
      ⊢ iprop((Landed d t c w -∗ wp frame (wpE (defs₀ (F := F)) 𝒱₀ (c : Thread nD τ) none) Set.univ (k ⟨⟩) Q)
          -∗ wp frame (wpE (defs₀ (F := F)) 𝒱₀ (c : Thread nD τ) none) Set.univ
              (.op (.store b (Rect.unit (s := S2x256x2048) off S1x256x2048.size inb) w Finset.univ hx hm) k) Q) := by
  unfold Landed
  iintro ⟨H1, H2, H3, H4, H5⟩ Hk
  ihave H4 := (slotOwn_any c d (!par t) V) $$ H4
  iapply (slot_store c d (!par t) w b hb off hoff inb) $$ H4
  iintro H4
  iapply Hk
  isplitl [H1]; · iexact H1
  isplitl [H2]; · iexact H2
  isplitl [H3]; · iexact H3
  isplitl [H4] <;> iassumption

/-- The first part of step `t`: both transfers leave, the operands of the next products are loaded, and both neighbours'
    transfers arrive. -/
theorem hopA {Q : α → sProp 𝕄} (t : ℕ) (ht : t < 31) (s : Bool) (hs : par t = s)
    {nR nL : Dev nD} (hnR : nR = tgt false c) (hnL : nL = tgt true c)
    {aR bR aL bL : Memref sig .tc .vmem S256x2048 .f32} (haR : aR = dslot false s) (hbR : bR = dslot false (!s)) (haL : aL = dslot true s) (hbL : bL = dslot true (!s))
    {sR rR sL rL : DmaSem sig} (hsR : sR = sendS false s) (hrR : rR = recvS false (!s)) (hsL : sL = sendS true s) (hrL : rL = recvS true (!s))
    {xR xL : Fin 2 → ℕ} (hxR : xR = ![256 * row false (t + 1) c, 0]) (hxL : xL = ![256 * row true (t + 1) c, 0])
    {wR wL : Fin 2 → ℕ} (hwR : wR = halfOff false) (hwL : wL = halfOff true)
    {uR vR uL vL : DmaSem sig} (huR : uR = sendS false s) (hvR : vR = recvS false (!s)) (huL : uL = sendS true s) (hvL : vL = recvS true (!s))
    {e₁ e₂ e₃ e₄ g₁ g₂ g₃ g₄ : Memref sig .tc .vmem S256x2048 .f32}
    (hg₁ : g₁.view.dmaCredit = N) (hg₂ : g₂.view.dmaCredit = N) (hg₃ : g₃.view.dmaCredit = N) (hg₄ : g₄.view.dmaCredit = N)
    {cR : bR.view.ref.isScScratch = false} {iR : aR.view.WordExact} {jR : bR.view.WordExact}
    {qR : DmaTarget.Typed .vmem (.dma rR) (.remote (Dev.tc nR : Thread nD τ) (bR : Memref sig (Dev.tc nR : Thread nD τ).2.kind .vmem S256x2048 .f32) (.dma sR) cR)}
    {cL : bL.view.ref.isScScratch = false} {iL : aL.view.WordExact} {jL : bL.view.WordExact}
    {qL : DmaTarget.Typed .vmem (.dma rL) (.remote (Dev.tc nL : Thread nD τ) (bL : Memref sig (Dev.tc nL : Thread nD τ).2.kind .vmem S256x2048 .f32) (.dma sL) cL)}
    {bxR : ∀ a, xR a + S256x256.size a ≤ S8192x256.size a} {bxL : ∀ a, xL a + S256x256.size a ≤ S8192x256.size a}
    {bwR : ∀ a, wR a + S256x2048.size a ≤ S256x4096.size a} {bwL : ∀ a, wL a + S256x2048.size a ≤ S256x4096.size a}
    {lxR : (Memref.whole cc0_stg0_0 : Memref sig .tc .vmem S8192x256 .f32).view.LoadsAt (Rect.unit (s := S8192x256) xR S256x256.size bxR).toLoadRect}
    {lwR : (Memref.whole cc0_stg1_0 : Memref sig .tc .vmem S256x4096 .f32).view.LoadsAt (Rect.unit (s := S256x4096) wR S256x2048.size bwR).toLoadRect}
    {lxL : (Memref.whole cc0_stg0_0 : Memref sig .tc .vmem S8192x256 .f32).view.LoadsAt (Rect.unit (s := S8192x256) xL S256x256.size bxL).toLoadRect}
    {lwL : (Memref.whole cc0_stg1_0 : Memref sig .tc .vmem S256x4096 .f32).view.LoadsAt (Rect.unit (s := S256x4096) wL S256x2048.size bwL).toLoadRect}
    {x₁ : e₁.view.WordExact} {y₁ : g₁.view.WordExact} {x₂ : e₂.view.WordExact} {y₂ : g₂.view.WordExact}
    {x₃ : e₃.view.WordExact} {y₃ : g₃.view.WordExact} {x₄ : e₄.view.WordExact} {y₄ : g₄.view.WordExact}
    {k : Vec F S256x256 .f32 → Vec F S256x2048 .f32 → Vec F S256x256 .f32 → Vec F S256x2048 .f32 → Prog (TpuEff nD τ sig (Elt F) Λ₀ .tc) α} :
    iprop(records m ρ K ∗ (Ready m ρ false t c ∗ Ready m ρ true t c ∗ ins m ρ c) ∗ ow c (debt c t))
      ⊢ iprop((((Landed false t c (acc m ρ false t (org false c)) ∗ Landed true t c (acc m ρ true t (org true c)) ∗ ins m ρ c) ∗ ow c (St c t 2))
            -∗ wp frame (wpE (defs₀ (F := F)) 𝒱₀ (c : Thread nD τ) none) Set.univ
              (k (xrows m ρ false (t + 1) c) (whalf m ρ false c) (xrows m ρ true (t + 1) c) (whalf m ρ true c)) Q)
          -∗ wp frame (wpE (defs₀ (F := F)) 𝒱₀ (c : Thread nD τ) none) Set.univ
              (.op (.enqueueDma aR (.remote (Dev.tc nR : Thread nD τ) bR (.dma sR) cR) (.dma rR) iR jR qR) fun _ =>
               .op (.enqueueDma aL (.remote (Dev.tc nL : Thread nD τ) bL (.dma sL) cL) (.dma rL) iL jL qL) fun _ =>
               .op (.load (Memref.whole cc0_stg0_0) (Rect.unit (s := S8192x256) xR S256x256.size bxR).toLoadRect lxR) fun v₁ =>
               .op (.load (Memref.whole cc0_stg1_0) (Rect.unit (s := S256x4096) wR S256x2048.size bwR).toLoadRect lwR) fun v₂ =>
               .op (.load (Memref.whole cc0_stg0_0) (Rect.unit (s := S8192x256) xL S256x256.size bxL).toLoadRect lxL) fun v₃ =>
               .op (.load (Memref.whole cc0_stg1_0) (Rect.unit (s := S256x4096) wL S256x2048.size bwL).toLoadRect lwL) fun v₄ =>
               .op (.waitDma2 uR e₁ g₁ x₁ y₁) fun _ => .op (.waitDma2 vR e₂ g₂ x₂ y₂) fun _ =>
               .op (.waitDma2 uL e₃ g₃ x₃ y₃) fun _ => .op (.waitDma2 vL e₄ g₄ x₄ y₄) fun _ => k v₁ v₂ v₃ v₄) Q) := by
  subst hs
  rw [debt_step c t ht]
  have h2 : Above (2 * t + 2) (St c t 2) := above_St2 c t
  have h0 : Above 0 (St c t 2) := h2.mono (Nat.zero_le _)
  unfold ins
  iintro ⟨#HR, ⟨HA, HB, HX, HW⟩, HO⟩ Hk
  iapply (cur (step_send m ρ K c false t ht (St c t 0) (St c t 1) rfl nR hnR aR bR haR hbR sR rR hsR hrR)) $$ HR HA HO
  iintro ⟨HA, HO⟩
  iapply (cur (step_send m ρ K c true t ht (St c t 1) (St c t 2) rfl nL hnL aL bL haL hbL sL rL hsL hrL)) $$ HR HB HO
  iintro ⟨HB, HO⟩
  iapply (x_load m ρ c false (t + 1) xR hxR bxR) $$ HX; iintro HX
  iapply (w_load m ρ c false wR hwR bwR) $$ HW; iintro HW
  iapply (x_load m ρ c true (t + 1) xL hxL bxL) $$ HX; iintro HX
  iapply (w_load m ρ c true wL hwL bwL) $$ HW; iintro HW
  iapply (cur (step_sendWait m ρ K c false t ht _ h0 uR huR e₁ g₁ hg₁)) $$ HR HA HO
  iintro ⟨HA, HO⟩
  iapply (cur (step_recvWait m ρ K c false t ht _ h2 vR hvR e₂ g₂ hg₂)) $$ HR HA HO
  iintro ⟨HA, HO⟩
  iapply (cur (step_sendWait m ρ K c true t ht _ h0 uL huL e₃ g₃ hg₃)) $$ HR HB HO
  iintro ⟨HB, HO⟩
  iapply (cur (step_recvWait m ρ K c true t ht _ h2 vL hvL e₄ g₄ hg₄)) $$ HR HB HO
  iintro ⟨HB, HO⟩
  iapply Hk
  isplitr [HO]
  · isplitl [HA]; · iexact HA
    isplitl [HB]; · iexact HB
    isplitl [HX] <;> iassumption
  iexact HO

/-- The second part of step `t`: the products are added to what arrived, and the slots the transfers left are lent. -/
theorem hopB {Q : α → sProp 𝕄} (t : ℕ) (ht : t < 30) (s : Bool) (hs : par t = s)
    {fR fL : Vec F S1x256x2048 .f32 → FVec F S1x256x2048 .f32}
    (hfR : fR (acc m ρ false t (org false c)) = acc m ρ false (t + 1) c) (hfL : fL (acc m ρ true t (org true c)) = acc m ρ true (t + 1) c)
    {o₁ o₂ o₃ o₄ o₅ o₆ : Fin 3 → ℕ} (ho₁ : o₁ = slotOff (!s)) (ho₂ : o₂ = slotOff (!s)) (ho₃ : o₃ = slotOff (!s)) (ho₄ : o₄ = slotOff (!s))
    (ho₅ : o₅ = slotOff (!s)) (ho₆ : o₆ = slotOff (!s))
    {nR nL : Dev nD} (hnR : nR = org false c) (hnL : nL = org true c) {zR zL : Sem sig} (hzR : zR = credS false) (hzL : zL = credS true)
    {u₁ u₂ : ℕ} (hu₁ : u₁ = 1) (hu₂ : u₂ = 1)
    {b₁ : ∀ a, o₁ a + S1x256x2048.size a ≤ S2x256x2048.size a} {b₂ : ∀ a, o₂ a + S1x256x2048.size a ≤ S2x256x2048.size a}
    {b₃ : ∀ a, o₃ a + S1x256x2048.size a ≤ S2x256x2048.size a} {b₄ : ∀ a, o₄ a + S1x256x2048.size a ≤ S2x256x2048.size a}
    {b₅ : ∀ a, o₅ a + S1x256x2048.size a ≤ S2x256x2048.size a} {b₆ : ∀ a, o₆ a + S1x256x2048.size a ≤ S2x256x2048.size a}
    {l₁ : (Memref.whole cc0_scratch0 : Memref sig .tc .vmem S2x256x2048 .f32).view.LoadsAt (Rect.unit (s := S2x256x2048) o₁ S1x256x2048.size b₁).toLoadRect}
    {l₂ : (Memref.whole cc0_scratch0 : Memref sig .tc .vmem S2x256x2048 .f32).view.LoadsAt (Rect.unit (s := S2x256x2048) o₂ S1x256x2048.size b₂).toLoadRect}
    {l₄ : (Memref.whole cc0_scratch1 : Memref sig .tc .vmem S2x256x2048 .f32).view.LoadsAt (Rect.unit (s := S2x256x2048) o₄ S1x256x2048.size b₄).toLoadRect}
    {l₅ : (Memref.whole cc0_scratch1 : Memref sig .tc .vmem S2x256x2048 .f32).view.LoadsAt (Rect.unit (s := S2x256x2048) o₅ S1x256x2048.size b₅).toLoadRect}
    {p₃ : ((Memref.whole cc0_scratch0 : Memref sig .tc .vmem S2x256x2048 .f32).access (Rect.unit (s := S2x256x2048) o₃ S1x256x2048.size b₃)).Stores Finset.univ}
    {q₃ : Finset.univ = Finset.univ ∨ ∀ a, (Rect.unit (s := S2x256x2048) o₃ S1x256x2048.size b₃).stride a = 1}
    {p₆ : ((Memref.whole cc0_scratch1 : Memref sig .tc .vmem S2x256x2048 .f32).access (Rect.unit (s := S2x256x2048) o₆ S1x256x2048.size b₆)).Stores Finset.univ}
    {q₆ : Finset.univ = Finset.univ ∨ ∀ a, (Rect.unit (s := S2x256x2048) o₆ S1x256x2048.size b₆).stride a = 1}
    {k : PUnit → Prog (TpuEff nD τ sig (Elt F) Λ₀ .tc) α} :
    iprop(records m ρ K ∗ (Landed false t c (acc m ρ false t (org false c)) ∗ Landed true t c (acc m ρ true t (org true c))) ∗ ow c (St c t 2))
      ⊢ iprop((((Lent m ρ false t c ∗ Lent m ρ true t c) ∗ ow c (debt c (t + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0) (Rect.unit (s := S2x256x2048) o₁ S1x256x2048.size b₁).toLoadRect l₁) fun v₁ =>
               .op (.load (Memref.whole cc0_scratch0) (Rect.unit (s := S2x256x2048) o₂ S1x256x2048.size b₂).toLoadRect l₂) fun _ =>
               .op (.store (Memref.whole cc0_scratch0) (Rect.unit (s := S2x256x2048) o₃ S1x256x2048.size b₃) (fR v₁) Finset.univ p₃ q₃) fun _ =>
               .op (.load (Memref.whole cc0_scratch1) (Rect.unit (s := S2x256x2048) o₄ S1x256x2048.size b₄).toLoadRect l₄) fun v₂ =>
               .op (.load (Memref.whole cc0_scratch1) (Rect.unit (s := S2x256x2048) o₅ S1x256x2048.size b₅).toLoadRect l₅) fun _ =>
               .op (.store (Memref.whole cc0_scratch1) (Rect.unit (s := S2x256x2048) o₆ S1x256x2048.size b₆) (fL v₂) Finset.univ p₆ q₆) fun _ =>
               .op (.semSignal (Dev.tc nR : Thread nD τ) zR u₁) fun _ => .op (.semSignal (Dev.tc nL : Thread nD τ) zL u₂) k) Q) := by
  subst hs
  iintro ⟨#HR, ⟨HA, HB⟩, HO⟩ Hk
  iapply (landed_load c false t _ (Memref.whole cc0_scratch0) rfl o₁ ho₁ b₁) $$ HA; iintro HA
  iapply (landed_load c false t _ (Memref.whole cc0_scratch0) rfl o₂ ho₂ b₂) $$ HA; iintro HA
  iapply (landed_store c false t _ _ (Memref.whole cc0_scratch0) rfl o₃ ho₃ b₃) $$ HA; iintro HA
  iapply (landed_load c true t _ (Memref.whole cc0_scratch1) rfl o₄ ho₄ b₄) $$ HB; iintro HB
  iapply (landed_load c true t _ (Memref.whole cc0_scratch1) rfl o₅ ho₅ b₅) $$ HB; iintro HB
  iapply (landed_store c true t _ _ (Memref.whole cc0_scratch1) rfl o₆ ho₆ b₆) $$ HB; iintro HB
  rw [hfR, hfL]
  iapply (cur (step_credSignal m ρ K c false t ht (St c t 2) (St c t 3) rfl nR hnR zR hzR u₁ hu₁)) $$ HR HA HO
  iintro ⟨HA, HO⟩
  iapply (cur (step_credSignal m ρ K c true t ht (St c t 3) (St c t 4) rfl nL hnL zL hzL u₂ hu₂)) $$ HR HB HO
  iintro ⟨HB, HO⟩
  iapply Hk
  isplitr [HO]
  · isplitl [HA] <;> iassumption
  iexact HO

/-- The third part of step `t`: both neighbours' credits arrive. -/
theorem hopC {Q : α → sProp 𝕄} (t : ℕ) (ht : t < 30) {zR zL : Sem sig} (hzR : zR = credS false) (hzL : zL = credS true)
    {u₁ u₂ : ℕ} (hu₁ : u₁ = 1) (hu₂ : u₂ = 1) {k : PUnit → Prog (TpuEff nD τ sig (Elt F) Λ₀ .tc) α} :
    iprop(records m ρ K ∗ (Lent m ρ false t c ∗ Lent m ρ true t c) ∗ ow c (debt c (t + 1)))
      ⊢ iprop((((Ready m ρ false (t + 1) c ∗ Ready m ρ true (t + 1) c) ∗ ow c (debt c (t + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait zR u₁) fun _ => .op (.semWait zL u₂) k) Q) := by
  have h3 : Above (2 * t + 3) (debt c (t + 1)) := above_St4 c t
  iintro ⟨#HR, ⟨HA, HB⟩, HO⟩ Hk
  iapply (cur (step_credWait m ρ K c false t ht _ h3 zR hzR u₁ hu₁)) $$ HR HA HO
  iintro ⟨HA, HO⟩
  iapply (cur (step_credWait m ρ K c true t ht _ h3 zL hzL u₂ hu₂)) $$ HR HB HO
  iintro ⟨HB, HO⟩
  iapply Hk
  isplitr [HO]
  · isplitl [HA] <;> iassumption
  iexact HO

end Rules

end Cert.KernelIdealProof

end
-- ==== Proof.KernelIdeal.Loop.lean ====
module

public import proofs.«01_k».proof.Proof.KernelIdeal.Hop

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Ck → ℕ)

/-- What a device holds before trip `k` of the loop. -/
def inv (c : Dev nD) (k : ℕ) : sProp 𝕄 :=
  iprop(records m ρ K ∗ (Lent m ρ false (2 * k) c ∗ Lent m ρ true (2 * k) c) ∗ ins m ρ c ∗ ow c (debt c (2 * k + 1)))

theorem par_odd (k : ℕ) : par (2 * k + 1) = true := by unfold par; simp
theorem par_even (k : ℕ) : par (2 * k + 2) = false := by unfold par; simp

theorem off5_eq' (c : Dev nD) (k : Fin k0_t1_loop.trips) : k0_off5 c k = ![256 * row false (2 * k.val + 1 + 1) c, 0] := off5_eq c k
theorem off6_eq' (c : Dev nD) (k : Fin k0_t1_loop.trips) : k0_off6 c k = ![256 * row true (2 * k.val + 1 + 1) c, 0] := off6_eq c k
theorem off7_eq' (c : Dev nD) (k : Fin k0_t1_loop.trips) : k0_off7 c k = ![256 * row false (2 * k.val + 2 + 1) c, 0] := off7_eq c k
theorem off8_eq' (c : Dev nD) (k : Fin k0_t1_loop.trips) : k0_off8 c k = ![256 * row true (2 * k.val + 2 + 1) c, 0] := off8_eq c k

set_option maxHeartbeats 2000000 in
/-- One trip of the loop: the steps `2 k + 1` and `2 k + 2`. -/
theorem trip (c : Dev nD) (v2 v13 v24 : BitVec 32) (v110 v129 : FVec F S256x2048 .f32) (k : Fin k0_t1_loop.trips) (u : Unit) :
    inv m ρ K c k.val ⊢ wp frame (wpE (defs₀ (F := F)) 𝒱₀ (c : Thread nD τ) none) Set.univ
      (k0_t1_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7 c v2 v13 v24 v110 v129 k u) (fun _ => inv m ρ K c (k.val + 1)) := by
  have hk : k.val < 14 := lt_of_lt_of_eq k.isLt trips_eq
  have ho := par_odd k.val
  have he := par_even k.val
  unfold k0_t1_body
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret]
  unfold inv
  iintro ⟨#HR, HL, HI, HO⟩
  iapply (cur (hopC m ρ K c (2 * k.val) (by omega) (by rfl) (by rfl) (by rfl) (by rfl))) $$ HR HL HO
  iintro ⟨⟨HA, HB⟩, HO⟩
  iapply (cur (hopA m ρ K c (2 * k.val + 1) (by omega) true ho (by exact dev7_eq c) (by exact dev8_eq c) (by rfl) (by rfl) (by rfl) (by rfl)
    (by rfl) (by rfl) (by rfl) (by rfl) (by exact off5_eq' c k) (by exact off6_eq' c k) (by rfl) (by rfl) (by rfl) (by rfl) (by rfl) (by rfl)
    (by exact credit_eq false false) (by exact credit_eq false false) (by exact credit_eq true false) (by exact credit_eq true false)))
    $$ HR [HA HB HI] HO
  · isplitl [HA]; · iexact HA
    isplitl [HB] <;> iassumption
  iintro ⟨⟨HA, HB, HI⟩, HO⟩
  iapply (cur (hopB m ρ K c (2 * k.val + 1) (by omega) true ho (by rfl) (by rfl) (by rfl) (by rfl) (by rfl) (by rfl) (by rfl) (by rfl)
    (by exact dev9_eq c) (by exact dev10_eq c) (by rfl) (by rfl) (by rfl) (by rfl))) $$ HR [HA HB] HO
  · isplitl [HA] <;> iassumption
  iintro ⟨HL, HO⟩
  iapply (cur (hopC m ρ K c (2 * k.val + 1) (by omega) (by rfl) (by rfl) (by rfl) (by rfl))) $$ HR HL HO
  iintro ⟨⟨HA, HB⟩, HO⟩
  iapply (cur (hopA m ρ K c (2 * k.val + 2) (by omega) false he (by exact dev11_eq c) (by exact dev12_eq c) (by rfl) (by rfl) (by rfl) (by rfl)
    (by rfl) (by rfl) (by rfl) (by rfl) (by exact off7_eq' c k) (by exact off8_eq' c k) (by rfl) (by rfl) (by rfl) (by rfl) (by rfl) (by rfl)
    (by exact credit_eq false true) (by exact credit_eq false true) (by exact credit_eq true true) (by exact credit_eq true true)))
    $$ HR [HA HB HI] HO
  · isplitl [HA]; · iexact HA
    isplitl [HB] <;> iassumption
  iintro ⟨⟨HA, HB, HI⟩, HO⟩
  iapply (cur (hopB m ρ K c (2 * k.val + 2) (by omega) false he (by rfl) (by rfl) (by rfl) (by rfl) (by rfl) (by rfl) (by rfl) (by rfl)
    (by exact dev13_eq c) (by exact dev14_eq c) (by rfl) (by rfl) (by rfl) (by rfl))) $$ HR [HA HB] HO
  · isplitl [HA] <;> iassumption
  iintro ⟨HL, HO⟩
  rw [wp_ret]
  imodintro
  rw [show 2 * (k.val + 1) = 2 * k.val + 2 from rfl]
  isplitr; · iexact HR
  isplitl [HL]; · iexact HL
  isplitl [HI] <;> iassumption

end Cert.KernelIdealProof

end
-- ==== Proof.KernelIdeal.Body.lean ====
module

public import proofs.«01_k».proof.Proof.KernelIdeal.Loop

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Ck → ℕ)

/-! ## The two slots of a buffer -/

theorem slot_disjoint (s s' : Bool) (h : s ≠ s') : Disjoint (slotR s).set (slotR s').set := by
  refine Finset.disjoint_left.mpr fun y hy => ?_
  have key : ∀ b : Bool, y ∈ (slotR b).set → (y 0).val = b.toNat := fun b hb => by
    obtain ⟨j, hj, hy'⟩ := (slotR b).mem_set.mp hb 0
    cases b
    · have h0 : (y 0).val = 0 + 1 * j := hy'
      have h1 : j < 1 := hj
      show (y 0).val = 0
      omega
    · have h0 : (y 0).val = 1 + 1 * j := hy'
      have h1 : j < 1 := hj
      show (y 0).val = 1
      omega
  intro hy'
  have h1 := key s hy
  have h2 := key s' hy'
  rw [h1] at h2
  revert h2 h
  cases s <;> cases s' <;> decide

theorem slot_cover : (Finset.univ : Finset S2x256x2048.Idx) = Finset.univ.biUnion fun s : Bool => (slotR s).set := by
  ext y
  refine ⟨fun _ => Finset.mem_biUnion.mpr ⟨decide ((y 0).val = 1), Finset.mem_univ _, ?_⟩, fun _ => Finset.mem_univ _⟩
  have h0 : (y 0).val < 2 := (y 0).isLt
  have h1 : (y 1).val < 256 := (y 1).isLt
  have h2 : (y 2).val < 2048 := (y 2).isLt
  refine (slotR (decide ((y 0).val = 1))).mem_set.mpr fun a => ?_
  by_cases hy : (y 0).val = 1
  · rw [decide_eq_true hy]
    fin_cases a
    · exact ⟨0, (by decide : 0 < 1), (show (y 0).val = 1 + 1 * 0 by omega)⟩
    · exact ⟨(y 1).val, h1, (show (y 1).val = 0 + 1 * (y 1).val by omega)⟩
    · exact ⟨(y 2).val, h2, (show (y 2).val = 0 + 1 * (y 2).val by omega)⟩
  · rw [decide_eq_false hy]
    fin_cases a
    · exact ⟨0, (by decide : 0 < 1), (show (y 0).val = 0 + 1 * 0 by omega)⟩
    · exact ⟨(y 1).val, h1, (show (y 1).val = 0 + 1 * (y 1).val by omega)⟩
    · exact ⟨(y 2).val, h2, (show (y 2).val = 0 + 1 * (y 2).val by omega)⟩

theorem buf_split (c : Dev nD) (d : Bool) : (iprop(∃ X, owns (c : Thread nD τ) (M d) fullShare X) : sProp 𝕄) ⊢ iprop(slotAny (F := F) c d false ∗ slotAny (F := F) c d true) := by
  have h (X : S2x256x2048.Idx → Elt F .f32) : (owns (c : Thread nD τ) (M d) fullShare X : sProp 𝕄)
      ⊢ iprop(owns (c : Thread nD τ) (slot d false) fullShare (fun j => X ((slotR false).emb j)) ∗ owns (c : Thread nD τ) (slot d true) fullShare (fun j => X ((slotR true).emb j))) := by
    refine (owns_rects (c : Thread nD τ) (M d) fullShare slotR (fun _ _ => rfl) slot_disjoint slot_cover.symm X).trans ?_
    rw [bigSep_univ_eq_bigSepL [false, true] (by decide) (by decide), bigSepL_cons_cons, bigSepL_singleton]
    exact .rfl
  iintro ⟨%X, H⟩
  ihave H := (h X) $$ H
  icases H with ⟨H1, H2⟩
  unfold slotAny slotOwn
  isplitl [H1]
  · iexists _; iexact H1
  · iexists _; iexact H2

/-- The two slots of a buffer make up the buffer. -/
theorem buf_join (c : Dev nD) (d : Bool) : (iprop(slotAny (F := F) c d false ∗ slotAny (F := F) c d true) : sProp 𝕄) ⊢ iprop(∃ X, owns (c : Thread nD τ) (M d) fullShare X) := by
  have h (V V' : FVec F S1x256x2048 .f32) : (iprop(owns (c : Thread nD τ) (slot d false) fullShare V ∗ owns (c : Thread nD τ) (slot d true) fullShare V') : sProp 𝕄)
      ⊢ owns (c : Thread nD τ) (M d) fullShare ((slotR true).overlay ((slotR false).overlay (fun _ => Scalar.ofBits .f32 0x00000000#32) V) V' : S2x256x2048.Idx → Elt F .f32) := by
    refine BIBase.Entails.trans ?_ (owns_of_rects (c : Thread nD τ) (M d) fullShare slotR (fun _ _ => rfl) slot_disjoint slot_cover.symm _)
    rw [bigSep_univ_eq_bigSepL [false, true] (by decide) (by decide), bigSepL_cons_cons, bigSepL_singleton]
    have e0 : (fun j => (slotR true).overlay ((slotR false).overlay (fun _ => Scalar.ofBits .f32 0x00000000#32) V) V' ((slotR false).emb j)) = V := by
      funext j
      rw [Rect.overlay_of_not_mem _ _ _ fun hj => Finset.disjoint_left.mp (slot_disjoint false true (by decide)) (by exact ((slotR false).mem_set).mpr fun a => ⟨(j a).val, (j a).isLt, rfl⟩) hj, Rect.overlay_emb]
    have e1 : (fun j => (slotR true).overlay ((slotR false).overlay (fun _ => Scalar.ofBits .f32 0x00000000#32) V) V' ((slotR true).emb j)) = V' := by
      funext j
      rw [Rect.overlay_emb]
    rw [e0, e1]
    exact .rfl
  unfold slotAny slotOwn
  iintro ⟨⟨%V, H⟩, ⟨%V', H'⟩⟩
  iexists _
  iapply (h V V')
  isplitl [H] <;> iassumption

/-! ## The output block -/

/-- A column of the output block within its half. -/
def halfIdx (i : S256x4096.Idx) : S256x2048.Idx := fun a => match a with
  | ⟨0, _⟩ => i 0
  | ⟨1, _⟩ => ⟨(i 1).val % 2048, Nat.mod_lt _ (by omega)⟩

/-- The output block: each half of its columns from its own direction. -/
def outG (c : Dev nD) : (cc0_stg2_0 : Ref sig .tc).ty.Contents (Elt F) :=
  fun i => outHalf m ρ (decide (2048 ≤ (i 1).val)) c (halfIdx i)

/-- The rectangle of a half of the output block. -/
abbrev outR (d : Bool) : Rect S256x4096 := Rect.unit (s := S256x4096) (halfOff d) S256x2048.size (half_inb d)

theorem halfIdx_emb (c : Dev nD) (d : Bool) (x : S256x2048.Idx) : outHalf m ρ d c x = outG m ρ c ((outR d).emb x) := by
  have h0 : (x 0).val < 256 := (x 0).isLt
  have h1 : (x 1).val < 2048 := (x 1).isLt
  unfold outG
  have e1 : (((outR d).emb x) 1).val = (if d then 2048 else 0) + (x 1).val := by
    cases d
    · show 0 + 1 * (x 1).val = 0 + (x 1).val
      omega
    · show 2048 + 1 * (x 1).val = 2048 + (x 1).val
      omega
  have e0 : (((outR d).emb x) 0).val = (x 0).val := by
    cases d
    · show 0 + 1 * (x 0).val = (x 0).val
      omega
    · show 0 + 1 * (x 0).val = (x 0).val
      omega
  have ed : decide (2048 ≤ (((outR d).emb x) 1).val) = d := by
    rw [e1]
    cases d <;> simp <;> omega
  have ei : halfIdx ((outR d).emb x) = x := by
    funext a
    match a with
    | ⟨0, _⟩ => exact Fin.ext e0
    | ⟨1, _⟩ =>
      refine Fin.ext ?_
      show (((outR d).emb x) 1).val % 2048 = (x 1).val
      rw [e1]
      cases d <;> simp <;> omega
  rw [ed, ei]

theorem out_cover (i : S256x4096.Idx) : i ∈ (outR (decide (2048 ≤ (i 1).val))).set := by
  have h0 : (i 0).val < 256 := (i 0).isLt
  have h1 : (i 1).val < 4096 := (i 1).isLt
  by_cases hi : 2048 ≤ (i 1).val
  · rw [decide_eq_true hi]
    refine ((outR true).mem_set).mpr fun a => ?_
    fin_cases a
    · exact ⟨(i 0).val, h0, (show (i 0).val = 0 + 1 * (i 0).val by omega)⟩
    · exact ⟨(i 1).val - 2048, (show (i 1).val - 2048 < 2048 by omega), (show (i 1).val = 2048 + 1 * ((i 1).val - 2048) by omega)⟩
  · rw [decide_eq_false hi]
    refine ((outR false).mem_set).mpr fun a => ?_
    fin_cases a
    · exact ⟨(i 0).val, h0, (show (i 0).val = 0 + 1 * (i 0).val by omega)⟩
    · exact ⟨(i 1).val, (show (i 1).val < 2048 by omega), (show (i 1).val = 0 + 1 * (i 1).val by omega)⟩

/-- The two halves, as the pieces the two stores write. -/
def outL (c : Dev nD) : List (View.Piece (Elt F) S256x4096 .f32) := [⟨outR true, outHalf m ρ true c⟩, ⟨outR false, outHalf m ρ false c⟩]

theorem outL_mem (c : Dev nD) (d : Bool) : (⟨outR d, outHalf m ρ d c⟩ : View.Piece (Elt F) S256x4096 .f32) ∈ outL m ρ c := by
  unfold outL
  cases d
  · exact List.mem_cons_of_mem _ List.mem_cons_self
  · exact List.mem_cons_self

theorem outL_val (c : Dev nD) : ∀ p ∈ outL m ρ c, ∀ x, p.2 x = outG m ρ c (p.1.emb x) := by
  unfold outL
  refine List.forall_mem_cons.mpr ⟨fun x => halfIdx_emb m ρ c true x, List.forall_mem_cons.mpr ⟨fun x => halfIdx_emb m ρ c false x, ?_⟩⟩
  intro p hp
  exact absurd hp List.not_mem_nil

theorem outL_cover (c : Dev nD) (i : S256x4096.Idx) : ∃ p ∈ outL m ρ c, i ∈ p.1.set :=
  ⟨⟨outR (decide (2048 ≤ (i 1).val)), outHalf m ρ (decide (2048 ≤ (i 1).val)) c⟩, outL_mem m ρ c _, out_cover i⟩

theorem out_read (c : Dev nD) (v : View sig .tc .vmem S256x4096 .f32) (f : v.ty.Contents (Elt F)) :
    v.read (Elt F) (v.writes (Elt F) f (outL m ρ c)) = outG m ρ c :=
  funext fun i => View.read_writes_apply_of_pieces v f (outG m ρ c) (outL m ρ c) (outL_val m ρ c) i (outL_cover m ρ c i)

theorem out_writes (c : Dev nD) (g : (cc0_stg2_0 : Ref sig .tc).ty.Contents (Elt F)) :
    (View.whole cc0_stg2_0 : View sig .tc .vmem S256x4096 .f32).writes (Elt F) g (outL m ρ c) = outG m ρ c :=
  (View.read_whole _ _).symm.trans (out_read m ρ c (View.whole cc0_stg2_0) g)

/-- The two stores make the output block, whatever it held. -/
theorem out_stores (c : Dev nD) (g : (cc0_stg2_0 : Ref sig .tc).ty.Contents (Elt F)) :
    ((Memref.whole cc0_stg2_0 : Memref sig .tc .vmem S256x4096 .f32).access (outR true)).write (Elt F)
      (((Memref.whole cc0_stg2_0 : Memref sig .tc .vmem S256x4096 .f32).access (outR false)).write (Elt F) g (outHalf m ρ false c) Finset.univ)
      (outHalf m ρ true c) Finset.univ = outG m ρ c := out_writes m ρ c g

end Cert.KernelIdealProof

end
-- ==== Proof.KernelIdeal.Sound.lean ====
module

public import proofs.«01_k».proof.Proof.KernelIdeal.Body

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Ck → ℕ)

/-! ## The body of one device -/

/-- What a direction's steps take at launch, beside the slots. -/
def Init (d : Bool) (c : Dev nD) : sProp 𝕄 := iprop(spots d 0 c ∗ spot c (.cred d) 0 ∗ sup d 0 c ∗ csup d 0 c)

/-- What the barrier takes. -/
def barInit (c : Dev nD) : sProp 𝕄 :=
  iprop(spot c .bar 0 ∗ cred (tallyAt (kcell (c, .bar)) 0 2) ∗ dutyTok ER (kcell (lft c, .bar)) 0 false ∗ dutyTok ER (kcell (rgt c, .bar)) 0 true)

/-- With its first running sum stored and the neighbour's slot received, a direction is ready for its first transfer. -/
theorem ready0 (d : Bool) (c : Dev nD) :
    (iprop(Init d c ∗ slotOwn c d false (acc m ρ d 0 c) ∗ barPay c d) : sProp 𝕄) ⊢ Ready m ρ d 0 c := by
  unfold Init barPay Ready
  rw [show par 0 = false from rfl, show (0 / 2 : ℕ) = 0 from rfl, show (!false) = true from rfl]
  iintro ⟨⟨H1, H2, H3, H4⟩, H5, H6, H7⟩
  isplitl [H1]; · iexact H1
  isplitl [H2]; · iexact H2
  isplitl [H5]; · iexact H5
  isplitl [H6]; · iexact H6
  isplitl [H7]; · iexact H7
  isplitl [H3] <;> iassumption

/-- What a device holds when its body starts. -/
def before (c : Dev nD) : sProp 𝕄 :=
  iprop(records m ρ K ∗ (Init false c ∗ Init true c) ∗ barInit c
    ∗ (slotAny (F := F) c false false ∗ slotAny (F := F) c false true) ∗ (slotAny (F := F) c true false ∗ slotAny (F := F) c true true)
    ∗ ins m ρ c ∗ (∃ g, ((c : Thread nD τ).loc cc0_stg2_0 ↦{fullShare} g)) ∗ ow c (O₀ c))

/-- What a device holds when its body has run: the last transfers landed, the result in the output block, nothing owed. -/
def behind (c : Dev nD) : sProp 𝕄 :=
  iprop(records m ρ K ∗ (Landed false 30 c (acc m ρ false 30 (org false c)) ∗ Landed true 30 c (acc m ρ true 30 (org true c)))
    ∗ spot c .bar 1 ∗ ins m ρ c ∗ ((c : Thread nD τ).loc cc0_stg2_0 ↦{fullShare} outG m ρ c) ∗ ow c (St c 30 2))

/-- A load of half of the output block. -/
theorem out_load {α : Type} {Q : α → sProp 𝕄} (c : Dev nD) (g : (cc0_stg2_0 : Ref sig .tc).ty.Contents (Elt F)) (off : Fin 2 → ℕ)
    (inb : ∀ a, off a + S256x2048.size a ≤ S256x4096.size a)
    {hl : (Memref.whole cc0_stg2_0 : Memref sig .tc .vmem S256x4096 .f32).view.LoadsAt (Rect.unit (s := S256x4096) off S256x2048.size inb).toLoadRect}
    {k : Vec F S256x2048 .f32 → Prog (TpuEff nD τ sig (Elt F) Λ₀ .tc) α} :
    (((c : Thread nD τ).loc cc0_stg2_0 ↦{fullShare} g) : sProp 𝕄)
      ⊢ iprop((((c : Thread nD τ).loc cc0_stg2_0 ↦{fullShare} g) -∗ ∀ v, wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg2_0) (Rect.unit (s := S256x4096) off S256x2048.size inb).toLoadRect hl) k) Q) := by
  iintro Hg Hk
  iapply (wp_load 𝒱₀ (c : Thread nD τ) none Set.univ (m := (Memref.whole cc0_stg2_0 : Memref sig .tc .vmem S256x4096 .f32)) (f := g) (Finset.subset_univ _)) $$ Hg
  iintro Hg
  iapply Hk $$ Hg

/-- A store into half of the output block. -/
theorem out_store {α : Type} {Q : α → sProp 𝕄} (c : Dev nD) (g : (cc0_stg2_0 : Ref sig .tc).ty.Contents (Elt F)) (d : Bool) (w : FVec F S256x2048 .f32)
    (off : Fin 2 → ℕ) (hoff : off = halfOff d) (inb : ∀ a, off a + S256x2048.size a ≤ S256x4096.size a)
    {hx : ((Memref.whole cc0_stg2_0 : Memref sig .tc .vmem S256x4096 .f32).access (Rect.unit (s := S256x4096) off S256x2048.size inb)).Stores Finset.univ}
    {hm : Finset.univ = Finset.univ ∨ ∀ a, (Rect.unit (s := S256x4096) off S256x2048.size inb).stride a = 1}
    {k : PUnit → Prog (TpuEff nD τ sig (Elt F) Λ₀ .tc) α} :
    (((c : Thread nD τ).loc cc0_stg2_0 ↦{fullShare} g) : sProp 𝕄)
      ⊢ iprop((((c : Thread nD τ).loc cc0_stg2_0 ↦{fullShare}
              ((Memref.whole cc0_stg2_0 : Memref sig .tc .vmem S256x4096 .f32).access (outR d)).write (Elt F) g w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg2_0) (Rect.unit (s := S256x4096) off S256x2048.size inb) w Finset.univ hx hm) k) Q) := by
  subst hoff
  exact wp_store 𝒱₀ (c : Thread nD τ) none Set.univ (m := (Memref.whole cc0_stg2_0 : Memref sig .tc .vmem S256x4096 .f32)) (r := outR d) (Mk := Finset.univ)
    (S := Finset.univ) (f := g) (Finset.subset_univ _)

set_option maxHeartbeats 4000000 in
/-- The body takes a device from the one to the other. -/
theorem sound (c : Dev nD) : before m ρ K c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7) (fun _ => behind m ρ K c) := by
  rw [cc0_body_eq_skeleton]
  unfold cc0_body_skel
  simp only [k0_part8_eq_skeleton, k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton, k0_part19_eq_skeleton]
  unfold k0_part8_skel k0_part9_skel k0_part10_skel k0_part11_skel k0_part12_skel k0_part13_skel k0_part14_skel k0_part15_skel k0_part16_skel
    k0_part17_skel k0_part18_skel k0_part19_skel
  simp only [semSignalWord, semWaitWord, Prog.lift, Prog.bind_op, Prog.bind_ret, Prog.pure_eq_ret, Prog.bind_assoc, wp_deviceId]
  unfold before barInit
  iintro ⟨#HR, ⟨HA, HB⟩, ⟨Hs, Hc, Ht, Ht'⟩, ⟨HR0, HR1⟩, ⟨HL0, HL1⟩, HI, ⟨%g, Hg⟩, HO⟩
  iapply (cur (step_barSignal m ρ K c false (O₀ c) (O₁ c) rfl _ (dev1_eq c) _ rfl _ (by rfl))) $$ HR [Ht HR1] HO
  · isplitl [Ht]; · iexact Ht
    iexact HR1
  iintro HO
  iapply (cur (step_barSignal m ρ K c true (O₁ c) (debt c 0) rfl _ (dev2_eq c) _ rfl _ (by rfl))) $$ HR [Ht' HL1] HO
  · isplitl [Ht']; · iexact Ht'
    iexact HL1
  iintro HO
  iapply (cur (step_barWait m ρ K c (debt c 0) (above_debt c 0 1 (by omega)) _ rfl _ (by rfl))) $$ HR [Hs Hc] HO
  · isplitl [Hs] <;> iassumption
  iintro ⟨Hs, ⟨HpR, HpL⟩, HO⟩
  unfold ins slotAny
  icases HI with ⟨HX, HW⟩
  icases HR0 with ⟨%VR, HR0⟩
  icases HL0 with ⟨%VL, HL0⟩
  iapply (x_load m ρ c false 0 _ (off1_eq c)) $$ HX; iintro HX
  iapply (w_load m ρ c false _ (by rfl)) $$ HW; iintro HW
  iapply (slot_load c false false VR _ (by rfl) _ (by rfl)) $$ HR0; iintro HR0
  ihave HR0 := (slotOwn_any c false false VR) $$ HR0
  iapply (slot_store c false false _ _ (by rfl) _ (by rfl)) $$ HR0; iintro HR0
  iapply (x_load m ρ c true 0 _ (off2_eq c)) $$ HX; iintro HX
  iapply (w_load m ρ c true _ (by rfl)) $$ HW; iintro HW
  iapply (slot_load c true false VL _ (by rfl) _ (by rfl)) $$ HL0; iintro HL0
  ihave HL0 := (slotOwn_any c true false VL) $$ HL0
  iapply (slot_store c true false _ _ (by rfl) _ (by rfl)) $$ HL0; iintro HL0
  ihave HA := (ready0 m ρ false c) $$ [HA HR0 HpR]
  · isplitl [HA]; · iexact HA
    isplitl [HR0]; · iexact HR0
    iexact HpR
  ihave HB := (ready0 m ρ true c) $$ [HB HL0 HpL]
  · isplitl [HB]; · iexact HB
    isplitl [HL0]; · iexact HL0
    iexact HpL
  ihave HI : ins m ρ c $$ [HX HW]
  · unfold ins
    isplitl [HX] <;> iassumption
  iapply (cur (hopA m ρ K c 0 (by omega) false (by rfl) (by exact dev3_eq c) (by exact dev4_eq c) (by rfl) (by rfl) (by rfl) (by rfl) (by rfl) (by rfl) (by rfl) (by rfl)
    (by exact off3_first c) (by exact off4_first c) (by rfl) (by rfl) (by rfl) (by rfl) (by rfl) (by rfl)
    (by exact credit_eq false true) (by exact credit_eq false true) (by exact credit_eq true true) (by exact credit_eq true true)))
    $$ HR [HA HB HI] HO
  · isplitl [HA]; · iexact HA
    isplitl [HB] <;> iassumption
  iintro ⟨⟨HA, HB, HI⟩, HO⟩
  iapply (cur (hopB m ρ K c 0 (by omega) false (by rfl) (by rfl) (by rfl) (by rfl) (by rfl) (by rfl) (by rfl) (by rfl) (by rfl)
    (by exact dev5_eq c) (by exact dev6_eq c) (by rfl) (by rfl) (by rfl) (by rfl))) $$ HR [HA HB] HO
  · isplitl [HA] <;> iassumption
  iintro ⟨HL, HO⟩
  iapply (Scf.wp_for_bind frame (wpE (defs₀ (F := F)) 𝒱₀ (c : Thread nD τ) none) Set.univ _ _ _ _ _ _ (fun k _ => inv m ρ K c k)
    (fun k u => trip m ρ K c _ _ _ _ _ k u)) $$ [HL HI HO]
  · unfold inv
    isplitr; · iexact HR
    isplitl [HL]; · iexact HL
    isplitl [HI] <;> iassumption
  iintro %u HV
  ihave HV : inv m ρ K c 14 $$ [HV]
  · iexact HV
  unfold inv
  icases HV with ⟨-, HL, HI, HO⟩
  iapply (cur (hopC m ρ K c 28 (by omega) (by rfl) (by rfl) (by rfl) (by rfl))) $$ HR HL HO
  iintro ⟨⟨HA, HB⟩, HO⟩
  iapply (cur (hopA m ρ K c 29 (by omega) true (by rfl) (by exact dev15_eq c) (by exact dev16_eq c) (by rfl) (by rfl) (by rfl) (by rfl) (by rfl) (by rfl) (by rfl) (by rfl)
    (by exact off3_last c) (by exact off4_last c) (by rfl) (by rfl) (by rfl) (by rfl) (by rfl) (by rfl)
    (by exact credit_eq false false) (by exact credit_eq false false) (by exact credit_eq true false) (by exact credit_eq true false)))
    $$ HR [HA HB HI] HO
  · isplitl [HA]; · iexact HA
    isplitl [HB] <;> iassumption
  iintro ⟨⟨HA, HB, HI⟩, HO⟩
  iapply (cur (hopB m ρ K c 29 (by omega) true (by rfl) (by rfl) (by rfl) (by rfl) (by rfl) (by rfl) (by rfl) (by rfl) (by rfl)
    (by exact dev17_eq c) (by exact dev18_eq c) (by rfl) (by rfl) (by rfl) (by rfl))) $$ HR [HA HB] HO
  · isplitl [HA] <;> iassumption
  iintro ⟨HL, HO⟩
  iapply (cur (hopC m ρ K c 29 (by omega) (by rfl) (by rfl) (by rfl) (by rfl))) $$ HR HL HO
  iintro ⟨⟨HA, HB⟩, HO⟩
  iapply (cur (hopA m ρ K c 30 (by omega) false (by rfl) (by exact dev19_eq c) (by exact dev20_eq c) (by rfl) (by rfl) (by rfl) (by rfl) (by rfl) (by rfl) (by rfl) (by rfl)
    (by exact off9_eq false c) (by exact off9_eq true c) (by rfl) (by rfl) (by rfl) (by rfl) (by rfl) (by rfl)
    (by exact credit_eq false true) (by exact credit_eq false true) (by exact credit_eq true true) (by exact credit_eq true true)))
    $$ HR [HA HB HI] HO
  · isplitl [HA]; · iexact HA
    isplitl [HB] <;> iassumption
  iintro ⟨⟨HA, HB, HI⟩, HO⟩
  iapply (landed_load c false 30 _ (Memref.whole cc0_scratch0) rfl _ (by rfl) _) $$ HA; iintro HA
  iapply (out_load c g) $$ Hg; iintro Hg %_
  iapply (out_store c g false (outHalf m ρ false c) _ (by rfl)) $$ Hg; iintro Hg
  iapply (landed_load c true 30 _ (Memref.whole cc0_scratch1) rfl _ (by rfl) _) $$ HB; iintro HB
  iapply (out_load c _) $$ Hg; iintro Hg %_
  iapply (out_store c _ true (outHalf m ρ true c) _ (by rfl)) $$ Hg; iintro Hg
  rw [wp_ret]
  imodintro
  unfold behind
  isplitr; · iexact HR
  isplitl [HA HB]
  · isplitl [HA] <;> iassumption
  isplitl [Hs]; · iexact Hs
  isplitl [HI]; · iexact HI
  isplitl [Hg]
  · rw [← out_stores m ρ c g]
    iexact Hg
  iexact HO

end Cert.KernelIdealProof

end
-- ==== Proof.KernelIdeal.Point.lean ====
module

public import proofs.«01_k».proof.Proof.KernelIdeal.Sound
public import proofs.«01_k».proof.Proof.Gen.KernelIdeal.Launch

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The one point of the pipeline -/

/-- A device's two buffers, whatever they hold. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What a device's body is started with, beside its buffers. -/
def start (c : Dev nD) : sProp 𝕄 := iprop(∃ K, records m ρ K ∗ (Init false c ∗ Init true c) ∗ barInit c)
/-- Before the point, -/
def Φ₀ (c : Dev nD) : sProp 𝕄 := iprop(start m ρ c ∗ bufs (F := F) c)
/-- and after it: every semaphore of the ring at zero. -/
def Φ₁ (c : Dev nD) : sProp 𝕄 := iprop(bufs (F := F) c ∗ bigSep Finset.univ fun k : Ck => semVal (kcell (c, k)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outG m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

def t₀ : Fin cfg0.N := t0_0
theorem fin_N (t : Fin cfg0.N) : t = t₀ := fin_N0 t

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A direction's whole buffer is its two slots. -/
theorem buf_open (c : Dev nD) : (bufs (F := F) c : sProp 𝕄)
    ⊢ iprop((slotAny (F := F) c false false ∗ slotAny (F := F) c false true) ∗ (slotAny (F := F) c true false ∗ slotAny (F := F) c true true)) := by
  have h0 : (iprop(∃ f : Buf (Elt F) ((c : Thread nD τ).loc cc0_scratch0), ((c : Thread nD τ).loc cc0_scratch0) ↦{fullShare} f) : sProp 𝕄)
      ⊢ iprop(∃ X, owns (c : Thread nD τ) (M false) fullShare X) := by
    show _ ⊢ iprop(∃ X, owns (c : Thread nD τ) (Memref.whole cc0_scratch0) fullShare X)
    simp only [owns_whole_eq]
    iintro ⟨%f, H⟩
    iexists f
    iexists f
    isplitr; · (ipureintro; rfl)
    iexact H
  have h1 : (iprop(∃ f : Buf (Elt F) ((c : Thread nD τ).loc cc0_scratch1), ((c : Thread nD τ).loc cc0_scratch1) ↦{fullShare} f) : sProp 𝕄)
      ⊢ iprop(∃ X, owns (c : Thread nD τ) (M true) fullShare X) := by
    show _ ⊢ iprop(∃ X, owns (c : Thread nD τ) (Memref.whole cc0_scratch1) fullShare X)
    simp only [owns_whole_eq]
    iintro ⟨%f, H⟩
    iexists f
    iexists f
    isplitr; · (ipureintro; rfl)
    iexact H
  unfold bufs
  exact BIClass.sep_mono (h0.trans (buf_split c false)) (h1.trans (buf_split c true))

theorem buf_close (c : Dev nD) :
    (iprop((slotAny (F := F) c false false ∗ slotAny (F := F) c false true) ∗ (slotAny (F := F) c true false ∗ slotAny (F := F) c true true)) : sProp 𝕄)
      ⊢ bufs (F := F) c := by
  have h0 : (iprop(∃ X, owns (c : Thread nD τ) (M false) fullShare X) : sProp 𝕄)
      ⊢ iprop(∃ f : Buf (Elt F) ((c : Thread nD τ).loc cc0_scratch0), ((c : Thread nD τ).loc cc0_scratch0) ↦{fullShare} f) := by
    show iprop(∃ X, owns (c : Thread nD τ) (Memref.whole cc0_scratch0) fullShare X) ⊢ _
    simp only [owns_whole_eq]
    iintro ⟨%X, %f, -, H⟩
    iexists f
    iexact H
  have h1 : (iprop(∃ X, owns (c : Thread nD τ) (M true) fullShare X) : sProp 𝕄)
      ⊢ iprop(∃ f : Buf (Elt F) ((c : Thread nD τ).loc cc0_scratch1), ((c : Thread nD τ).loc cc0_scratch1) ↦{fullShare} f) := by
    show iprop(∃ X, owns (c : Thread nD τ) (Memref.whole cc0_scratch1) fullShare X) ⊢ _
    simp only [owns_whole_eq]
    iintro ⟨%X, %f, -, H⟩
    iexists f
    iexact H
  unfold bufs
  exact BIClass.sep_mono ((buf_join c false).trans h0) ((buf_join c true).trans h1)

/-- A sum over a device's cells, one by one. -/
theorem bigSep_Ck (Φ : Ck → sProp 𝕄) : bigSep Finset.univ Φ
    = iprop(Φ .bar ∗ Φ (.send false false) ∗ Φ (.send false true) ∗ Φ (.send true false) ∗ Φ (.send true true)
      ∗ Φ (.recv false false) ∗ Φ (.recv false true) ∗ Φ (.recv true false) ∗ Φ (.recv true true) ∗ Φ (.cred false) ∗ Φ (.cred true)) :=
  bigSep_univ_eq_bigSepL ckList (by decide) (by decide) Φ

/-- A cell at the end of its schedule closes, its counter at zero. -/
theorem close1 (K : Dev nD × Ck → ℕ) (c : Dev nD) (k : Ck) (r : ℕ) (hr : r = endRound k) :
    (iprop(records m ρ K ∗ spot c k r) : sProp 𝕄) ⊢ |={Set.univ}=> semVal (kcell (c, k)) 0 := by
  subst hr
  unfold spot
  iintro ⟨#HR, Hat, -⟩
  imod (Rounds.cell_close ER (ringRd m ρ) (Set.mem_univ (K (c, k))) (fun h => h) (R := endRound k) (duties_later m ρ c k)) $$ [Hat] with Hz
  · isplitr; · iapply (inv_at m ρ K (c, k)); iexact HR
    iexact Hat
  imodintro
  iexact Hz

theorem owed_end (c : Dev nD) : St c 30 2 = 0 := by
  show debt c (30 + 1) + ct true c 30 + ct false c 30 = 0
  rw [debt_end]
  unfold ct
  rw [if_neg (by omega), if_neg (by omega), add_zero, add_zero]

/-- What the body leaves, the semaphores closed and the slots put together. -/
theorem finish (K : Dev nD × Ck → ℕ) (c : Dev nD) : behind m ρ K c
    ⊢ |={Set.univ}=> iprop(Φ₁ c ∗ ow c 0 ∗ ins m ρ c ∗ ((c : Thread nD τ).loc cc0_stg2_0 ↦{fullShare} outG m ρ c)) := by
  unfold behind Landed spots
  rw [owed_end]
  iintro ⟨#HR, ⟨⟨⟨Hs1, Hs0, Hr0, Hr1⟩, Hc, HA0, HA1, -⟩, ⟨⟨Ks1, Ks0, Kr0, Kr1⟩, Kc, HB0, HB1, -⟩⟩, Hbar, HI, Hg, HO⟩
  imod (close1 m ρ K c .bar _ rfl) $$ [Hbar] with Zb
  · isplitr; · iexact HR
    iexact Hbar
  imod (close1 m ρ K c (.send false true) _ (by rfl)) $$ [Hs1] with Z1
  · isplitr; · iexact HR
    iexact Hs1
  imod (close1 m ρ K c (.send false false) _ (by rfl)) $$ [Hs0] with Z2
  · isplitr; · iexact HR
    iexact Hs0
  imod (close1 m ρ K c (.recv false false) _ (by rfl)) $$ [Hr0] with Z3
  · isplitr; · iexact HR
    iexact Hr0
  imod (close1 m ρ K c (.recv false true) _ (by rfl)) $$ [Hr1] with Z4
  · isplitr; · iexact HR
    iexact Hr1
  imod (close1 m ρ K c (.cred false) _ (by rfl)) $$ [Hc] with Z5
  · isplitr; · iexact HR
    iexact Hc
  imod (close1 m ρ K c (.send true true) _ (by rfl)) $$ [Ks1] with Y1
  · isplitr; · iexact HR
    iexact Ks1
  imod (close1 m ρ K c (.send true false) _ (by rfl)) $$ [Ks0] with Y2
  · isplitr; · iexact HR
    iexact Ks0
  imod (close1 m ρ K c (.recv true false) _ (by rfl)) $$ [Kr0] with Y3
  · isplitr; · iexact HR
    iexact Kr0
  imod (close1 m ρ K c (.recv true true) _ (by rfl)) $$ [Kr1] with Y4
  · isplitr; · iexact HR
    iexact Kr1
  imod (close1 m ρ K c (.cred true) _ (by rfl)) $$ [Kc] with Y5
  · isplitr; · iexact HR
    iexact Kc
  imodintro
  ihave HA1 := (slotOwn_any c false true _) $$ [HA1]
  · iexact HA1
  ihave HB1 := (slotOwn_any c true true _) $$ [HB1]
  · iexact HB1
  unfold Φ₁
  rw [bigSep_Ck]
  isplitl [HA0 HA1 HB0 HB1 Zb Z1 Z2 Z3 Z4 Z5 Y1 Y2 Y3 Y4 Y5]
  · isplitl [HA0 HA1 HB0 HB1]
    · iapply (buf_close (F := F) c)
      isplitl [HA0 HA1]
      · isplitl [HA0]; · iexact HA0
        iexact HA1
      · isplitl [HB0]; · iexact HB0
        iexact HB1
    isplitl [Zb]; · iexact Zb
    isplitl [Z2]; · iexact Z2
    isplitl [Z1]; · iexact Z1
    isplitl [Y2]; · iexact Y2
    isplitl [Y1]; · iexact Y1
    isplitl [Z3]; · iexact Z3
    isplitl [Z4]; · iexact Z4
    isplitl [Y3]; · iexact Y3
    isplitl [Y4]; · iexact Y4
    isplitl [Z5]; · iexact Z5
    iexact Y5
  isplitl [HO]; · iexact HO
  isplitl [HI]; · iexact HI
  iexact Hg

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt 0 t₀.succ ∗ stg c cc0_stg0_0 (xstg m ρ c) ∗ stg c cc0_stg1_0 (wstg m ρ c) ∗ stg c cc0_stg2_0 (outG m ρ c))

theorem pre_before (c : Dev nD) : bodyPre m ρ c ⊢ iprop(∃ K, before m ρ K c) := by
  unfold bodyPre Φ₀ start
  iintro ⟨⟨⟨%K, HR, HI, Hb⟩, Hbufs⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx
  subst hw
  unfold Dat.owesAt Pipeline.owesWithin
  icases Ho with ⟨%W, %hW, HO⟩
  ihave Hbufs := (buf_open (F := F) c) $$ Hbufs
  icases Hbufs with ⟨H1, H2⟩
  iexists K
  unfold before ins ow
  isplitl [HR]; · iexact HR
  isplitl [HI]; · iexact HI
  isplitl [Hb]; · iexact Hb
  isplitl [H1]; · iexact H1
  isplitl [H2]; · iexact H2
  isplitl [Hx Hw]
  · isplitl [Hx]; · iexact Hx
    iexact Hw
  isplitl [Hout]
  · iexists g2; iexact Hout
  iexists W
  iexact HO

theorem post_behind (K : Dev nD × Ck → ℕ) (c : Dev nD) : behind m ρ K c ⊢ |={Set.univ}=> bodyPost m ρ c := by
  iintro H
  imod (finish m ρ K c) $$ H with ⟨H1, HO, HI, Hg⟩
  imodintro
  unfold bodyPost ow ins Dat.owesAt Pipeline.owesWithin
  rw [show (dats m ρ 0 c).owed t₀.succ = 0 from rfl]
  icases HO with ⟨%W, HO⟩
  icases HI with ⟨Hx, Hw⟩
  isplitl [H1]; · iexact H1
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hg

/-- The pipeline's obligation for the body of a device. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c)
  refine BIBase.Entails.trans (pre_before m ρ c) ?_
  iintro ⟨%K, H⟩
  iapply (BIBase.Entails.trans (sound m ρ K c) (BIBase.Entails.trans (wp_mono _ _ _ fun _ => post_behind m ρ K c) (wp_fupd _ _ _ _ _)))
  iexact H

end Cert.KernelIdealProof

end
-- ==== Proof.KernelIdeal.Run.lean ====
module

public import proofs.«01_k».proof.Proof.KernelIdeal.Point
public import Idealize.ShloMosaic.Lib.Pipeline.CollectiveSegs

@[expose] public section

set_option maxRecDepth 16384

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores and the tokens at launch -/

/-- The body's own semaphores, as the ring counts them. -/
abbrev ownCk : Fin 10 → Ck
  | 0 => .send false false | 1 => .send false true | 2 => .send true false | 3 => .send true true
  | 4 => .recv false false | 5 => .recv false true | 6 => .recv true false | 7 => .recv true true
  | 8 => .cred false | 9 => .cred true
/-- The body's own semaphores. -/
def osem (i : Fin 10) : SemLoc sig := csem (ownCk i)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of one direction at a device's own cells: the barrier's, and those of each send, arrival and credit. -/
abbrev TokIx : Type := Unit ⊕ (Fin 31 ⊕ (Fin 31 ⊕ Fin 30))

/-- The cell, the round and the name of a duty. -/
def tokK (d : Bool) : TokIx → Ck × ℕ × Bool
  | .inl _ => (.bar, 0, d)
  | .inr (.inl u) => (.send d (par u), u / 2, false)
  | .inr (.inr (.inl u)) => (.recv d (!par u), u / 2, false)
  | .inr (.inr (.inr k)) => (.cred d, k, false)

theorem tokK_injective : Function.Injective (fun x : Bool × TokIx => tokK x.1 x.2) := by
  rintro ⟨d, x⟩ ⟨d', x'⟩ h
  rcases x with ⟨⟩ | u | u | u <;> rcases x' with ⟨⟩ | u' | u' | u' <;> simp only [tokK, Prod.mk.injEq, reduceCtorEq, false_and, Ck.send.injEq, Ck.recv.injEq, Ck.cred.injEq] at h
  · obtain ⟨-, -, rfl⟩ := h; rfl
  · obtain ⟨⟨rfl, h1⟩, h2, -⟩ := h
    have : (u : ℕ) = u' := by rw [← sendHop_par u, ← sendHop_par u', h1, h2]
    rw [Fin.ext this]
  · obtain ⟨⟨rfl, h1⟩, h2, -⟩ := h
    have : (u : ℕ) = u' := by rw [← recvHop_par u, ← recvHop_par u', h1, h2]
    rw [Fin.ext this]
  · obtain ⟨rfl, h2, -⟩ := h
    rw [Fin.ext h2]

abbrev tokOf (x : Dev nD × (Bool × TokIx)) : GSem nD τ sig × ℕ × Bool :=
  (kcell (x.1, (tokK x.2.1 x.2.2).1), (tokK x.2.1 x.2.2).2)
theorem tokOf_injective : Function.Injective tokOf := by
  rintro ⟨c, x⟩ ⟨c', x'⟩ h
  have h1 := kcell_injective (congrArg Prod.fst h)
  have h2 : (tokK x.1 x.2).2 = (tokK x'.1 x'.2).2 := by
    have := congrArg (fun y : GSem nD τ sig × ℕ × Bool => y.2) h
    exact this
  have h3 : x = x' := tokK_injective (Prod.ext (congrArg Prod.snd h1) h2)
  rw [show c = c' from congrArg Prod.fst h1, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- A direction's duty tokens, its four kinds at the cells of four devices. -/
def tokD (d : Bool) (b s r k : Dev nD) : sProp 𝕄 :=
  iprop(dutyTok ER (kcell (b, .bar)) 0 d
    ∗ (bigSep (Finset.range 31) fun u => dutyTok ER (kcell (s, .send d (par u))) (u / 2) false)
    ∗ (bigSep (Finset.range 31) fun u => dutyTok ER (kcell (r, .recv d (!par u))) (u / 2) false)
    ∗ bigSep (Finset.range 30) fun u => dutyTok ER (kcell (k, .cred d)) u false)

/-- The tokens of a device's own cells. -/
def toks (c : Dev nD) : sProp 𝕄 := iprop(tokD false c c c c ∗ tokD true c c c c)
/-- The tokens of the duties a direction's side of a device discharges. -/
def payD (d : Bool) (c : Dev nD) : sProp 𝕄 := tokD d (org d c) c (tgt d c) (org d c)

/-- What the launch deals a device. -/
def G (c : Dev nD) : sProp 𝕄 :=
  iprop((bigSep Finset.univ fun k : Ck => roundState ER (ringRd m ρ) (kcell (c, k)) 0)
    ∗ (bigSep Finset.univ fun k : Ck => iprop(atPos ER (kcell (c, k)) 0 ∅ 0 ∗ reached ER (kcell (c, k)) 0)) ∗ toks c)

/-- Every cell's invariant, and that every cell has reached round 0. -/
def shared (K : Dev nD × Ck → ℕ) : sProp 𝕄 :=
  iprop((bigSep Finset.univ fun ck : Dev nD × Ck => cellInv ER (ringRd m ρ) (K ck) (kcell ck))
    ∗ bigSep Finset.univ fun ck : Dev nD × Ck => reached ER (kcell ck) 0)

instance shared_persistent (K : Dev nD × Ck → ℕ) : BI.Persistent (shared (F := F) m ρ K) := by unfold shared; infer_instance

/-- What stays with a device: its positions, and the tokens of the duties it discharges. -/
def linear (c : Dev nD) : sProp 𝕄 := iprop((bigSep Finset.univ fun k : Ck => atPos ER (kcell (c, k)) 0 ∅ 0) ∗ payD false c ∗ payD true c)

/-- What the devices' common step makes of it. -/
def G' (c : Dev nD) : sProp 𝕄 := iprop(∃ K, shared m ρ K ∗ linear c)

theorem tok_split (d : Bool) (c : Dev nD) :
    (bigSep Finset.univ fun x : TokIx => (dutyTok ER (tokOf (c, (d, x))).1 (tokOf (c, (d, x))).2.1 (tokOf (c, (d, x))).2.2 : sProp 𝕄)) = tokD d c c c c := by
  rw [BI.bigSep_univ_sum, BI.bigSep_univ_sum, BI.bigSep_univ_sum]
  unfold tokD
  rw [bigSep_univ_eq_bigSepL [()] (by decide) (by decide), bigSepL_singleton,
    Ring.bigSep_fin_eq_range 31 _ (fun u => (dutyTok ER (kcell (c, .send d (par u))) (u / 2) false : sProp 𝕄)) (fun _ _ => rfl),
    Ring.bigSep_fin_eq_range 31 _ (fun u => (dutyTok ER (kcell (c, .recv d (!par u))) (u / 2) false : sProp 𝕄)) (fun _ _ => rfl),
    Ring.bigSep_fin_eq_range 30 _ (fun u => (dutyTok ER (kcell (c, .cred d)) u false : sProp 𝕄)) (fun _ _ => rfl)]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_prod, bigSep_univ_eq_bigSepL [false, true] (by decide) (by decide), bigSepL_cons_cons, bigSepL_singleton]
    unfold toks
    rw [← tok_split, ← tok_split]
    rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal (kcell (c, .send false false)) 0 ∗ semVal (kcell (c, .send false true)) 0 ∗ semVal (kcell (c, .send true false)) 0
      ∗ semVal (kcell (c, .send true true)) 0 ∗ semVal (kcell (c, .recv false false)) 0 ∗ semVal (kcell (c, .recv false true)) 0
      ∗ semVal (kcell (c, .recv true false)) 0 ∗ semVal (kcell (c, .recv true true)) 0 ∗ semVal (kcell (c, .cred false)) 0
      ∗ semVal (kcell (c, .cred true)) 0) := by
  rw [Pipeline.ownSems0_eq_of_list c osem [0, 1, 2, 3, 4, 5, 6, 7, 8, 9] (by decide) (by decide)]; rfl
/-- The barrier semaphore is the launch's one unscoped semaphore. -/
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

theorem sems0_eq (c : Dev nD) : (bigSep Finset.univ fun k : Ck => (semVal (kcell (c, k)) 0 : sProp 𝕄))
    = iprop(unscopedSems0 c ∗ Pipeline.ownSems0 (Ix := ℕ) (Name := ℕ) (U := UU) (Lvl := ℕ) (Val := Elt F) (τ := τ) osem c) := by
  rw [ownSems0_eq, unscopedSems0_eq, bigSep_Ck]

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Ck => semVal (kcell (c, k)) 0) ∗ bigSep Finset.univ fun k : Ck => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The next device in a direction, as a bijection of the devices. -/
def ring (d : Bool) : Dev nD ≃ Dev nD := ⟨tgt d, org d, fun c => org_tgt d c, fun c => tgt_org d c⟩

/-- A direction's tokens dealt around the ring: those of the barrier and of the credits to the device before, those of
    the arrivals to the device after. -/
theorem tokD_around (d : Bool) : (bigSep Finset.univ fun c : Dev nD => (tokD d c c c c : sProp 𝕄)) ⊢ bigSep Finset.univ fun c : Dev nD => payD d c := by
  unfold payD tokD
  rw [bigSep_sep', bigSep_sep', bigSep_sep', bigSep_sep', bigSep_sep', bigSep_sep',
    bigSep_univ_equiv (ring d).symm (fun c : Dev nD => (dutyTok ER (kcell (c, .bar)) 0 d : sProp 𝕄)),
    bigSep_univ_equiv (ring d) (fun c : Dev nD => (bigSep (Finset.range 31) fun u => dutyTok ER (kcell (c, .recv d (!par u))) (u / 2) false : sProp 𝕄)),
    bigSep_univ_equiv (ring d).symm (fun c : Dev nD => (bigSep (Finset.range 30) fun u => dutyTok ER (kcell (c, .cred d)) u false : sProp 𝕄))]
  exact BIBase.Entails.rfl

theorem toks_around : (bigSep Finset.univ fun c : Dev nD => (toks c : sProp 𝕄)) ⊢ bigSep Finset.univ fun c : Dev nD => iprop(payD false c ∗ payD true c) := by
  unfold toks
  rw [bigSep_sep', bigSep_sep']
  exact BIClass.sep_mono (tokD_around false) (tokD_around true)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Ck => iprop(∃ κ : ℕ, cellInv ER (ringRd m ρ) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (ringRd m ρ) κ (kcell ck) : sProp 𝕄))) $$ HI
  icases HK with ⟨%K, #HI⟩
  ihave Htk := (toks_around (F := F)) $$ Htok
  iapply (bigSep_with_persistent (R := shared m ρ K) (Φ := linear) fun c _ => (show _ ⊢ G' m ρ c from by
    unfold G'
    iintro H
    iexists K
    iexact H))
  isplitr
  · unfold shared; isplitl; · iexact HI
    iexact HR
  · iapply ((Entails.of_eq (bigSep_sep' Finset.univ (fun c : Dev nD => bigSep Finset.univ fun k : Ck => (atPos ER (kcell (c, k)) 0 ∅ 0 : sProp 𝕄))
      (fun c => iprop(payD false c ∗ payD true c))).symm))
    isplitl [Hat]; · iexact Hat
    iexact Htk

/-- The devices' common step: every cell's invariant allocated, the tokens dealt. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The rights to wait dealt at launch -/

/-- A direction's rights to wait at a device's own cells. -/
def credD (d : Bool) (c : Dev nD) : sProp 𝕄 :=
  iprop((bigSep (Finset.range 31) fun u => cred (tallyAt (kcell (c, .recv d (!par u))) u N))
    ∗ bigSep (Finset.range 30) fun k => cred (tallyAt (kcell (c, .cred d)) k 1))

theorem lc_rt (d : Bool) (u : ℕ) (c : Dev nD) :
    (Pipeline.launchCred (fun e => rt d e u) c : sProp 𝕄) ⊢ cred (tallyAt (kcell (c, .recv d (!par u))) u N) :=
  Pipeline.launchCred_tallyAt (csem (.recv d (!par u))) (tgt d) (org d) (fun c => tgt_org d c) (fun c => org_tgt d c) u N c
theorem lc_ct (d : Bool) (u : ℕ) (hu : u < 30) (c : Dev nD) :
    (Pipeline.launchCred (fun e => ct d e u) c : sProp 𝕄) ⊢ cred (tallyAt (kcell (c, .cred d)) u 1) := by
  have h : (fun e => ct d e u) = fun e : Dev nD => (tallyAt (kcell (org d e, .cred d)) u 1 : CellTallies nD τ sig ℕ) := funext fun e => if_pos hu
  rw [h]
  exact Pipeline.launchCred_tallyAt (csem (.cred d)) (org d) (tgt d) (fun c => org_tgt d c) (fun c => tgt_org d c) u 1 c

theorem lc_rts (d : Bool) (c : Dev nD) : (bigSep (Finset.Ico 0 31) fun u => (Pipeline.launchCred (fun e => rt d e u) c : sProp 𝕄))
    ⊢ bigSep (Finset.range 31) fun u => cred (tallyAt (kcell (c, .recv d (!par u))) u N) := by
  rw [Finset.range_eq_Ico]
  exact bigSep_mono fun u _ => lc_rt d u c
theorem lc_cts (d : Bool) (c : Dev nD) : (bigSep (Finset.Ico 0 31) fun u => (Pipeline.launchCred (fun e => ct d e u) c : sProp 𝕄))
    ⊢ bigSep (Finset.range 30) fun k => cred (tallyAt (kcell (c, .cred d)) k 1) := by
  rw [Finset.range_eq_Ico]
  refine (BI.bigSep_subset (t := Finset.Ico 0 30) (Finset.Ico_subset_Ico_right (by omega))).trans ?_
  exact bigSep_mono fun u hu => lc_ct d u (Finset.mem_Ico.mp hu).2 c

theorem creds (c : Dev nD) :
    (Pipeline.launchCred O₀ c : sProp 𝕄) ⊢ iprop(cred (tallyAt (kcell (c, .bar)) 0 2) ∗ credD false c ∗ credD true c) := by
  have hO : (O₀ : Dev nD → CellTallies nD τ sig ℕ) = fun e => ((∑ u ∈ Finset.Ico 0 31, (0 + ct true e u + ct false e u + rt true e u + rt false e u))
      + tallyAt (kcell (rgt e, .bar)) 0 1) + tallyAt (kcell (lft e, .bar)) 0 1 := rfl
  rw [hO, Pipeline.launchCred_add, Pipeline.launchCred_add, Pipeline.launchCred_sum (Finset.Ico 0 31) (fun u (e : Dev nD) => 0 + ct true e u + ct false e u + rt true e u + rt false e u)]
  simp only [Pipeline.launchCred_add, bigSep_sep']
  iintro ⟨⟨⟨⟨⟨⟨-, Hct⟩, Hcf⟩, Hrt⟩, Hrf⟩, Hr⟩, Hl⟩
  ihave Hr := (Pipeline.launchCred_tallyAt (csem .bar) rgt lft rgt_lft lft_rgt 0 1 c) $$ Hr
  ihave Hl := (Pipeline.launchCred_tallyAt (csem .bar) lft rgt lft_rgt rgt_lft 0 1 c) $$ Hl
  unfold credD
  isplitl [Hr Hl]
  · iapply (show (iprop(cred (tallyAt (kcell (c, .bar)) 0 1) ∗ cred (tallyAt (kcell (c, .bar)) 0 1)) : sProp 𝕄) ⊢ cred (tallyAt (kcell (c, .bar)) 0 2) from
      (cred_add _ _).2.trans (Entails.of_eq (by rw [tallyAt_add])))
    isplitl [Hr] <;> iassumption
  isplitl [Hrf Hcf]
  · isplitl [Hrf]
    · iapply (lc_rts (F := F) false c) $$ Hrf
    · iapply (lc_cts (F := F) false c) $$ Hcf
  · isplitl [Hrt]
    · iapply (lc_rts (F := F) true c) $$ Hrt
    · iapply (lc_cts (F := F) true c) $$ Hct

/-! ## The launch's side conditions -/

theorem spot_intro (K : Dev nD × Ck → ℕ) (c : Dev nD) (k : Ck) : (iprop(records m ρ K ∗ atPos ER (kcell (c, k)) 0 ∅ 0) : sProp 𝕄) ⊢ spot c k 0 := by
  unfold spot
  iintro ⟨#HR, H⟩
  isplitl [H]; · iexact H
  iapply (reached_at m ρ K (c, k)); iexact HR

/-- A direction's positions, tokens and rights make what its side of the body starts with. -/
theorem init_intro (K : Dev nD × Ck → ℕ) (d : Bool) (c : Dev nD) :
    (iprop(records m ρ K ∗ (atPos ER (kcell (c, .send d false)) 0 ∅ 0 ∗ atPos ER (kcell (c, .send d true)) 0 ∅ 0
        ∗ atPos ER (kcell (c, .recv d false)) 0 ∅ 0 ∗ atPos ER (kcell (c, .recv d true)) 0 ∅ 0 ∗ atPos ER (kcell (c, .cred d)) 0 ∅ 0)
      ∗ payD d c ∗ credD d c) : sProp 𝕄) ⊢ iprop(Init d c ∗ dutyTok ER (kcell (org d c, .bar)) 0 d) := by
  unfold Init payD tokD credD spots sup csup hopSup credSup
  rw [show par 0 = false from rfl, show (!false) = true from rfl, ← Finset.range_eq_Ico,
    ← Finset.range_eq_Ico, bigSep_sep', bigSep_sep', bigSep_sep']
  iintro ⟨#HR, ⟨Hs0, Hs1, Hr0, Hr1, Hc⟩, ⟨Htb, Hts, Htr, Htc⟩, ⟨Hcr, Hcc⟩⟩
  isplitr [Htb]
  · isplitl [Hs0 Hs1 Hr0 Hr1]
    · isplitl [Hs0]; · (iapply (spot_intro m ρ K c _); isplitr; · iexact HR
                        iexact Hs0)
      isplitl [Hs1]; · (iapply (spot_intro m ρ K c _); isplitr; · iexact HR
                        iexact Hs1)
      isplitl [Hr1]; · (iapply (spot_intro m ρ K c _); isplitr; · iexact HR
                        iexact Hr1)
      iapply (spot_intro m ρ K c _); isplitr; · iexact HR
      iexact Hr0
    isplitl [Hc]; · (iapply (spot_intro m ρ K c _); isplitr; · iexact HR
                     iexact Hc)
    isplitl [Hcr Hts Htr]
    · isplitl [Hcr]; · iexact Hcr
      isplitl [Hts] <;> iassumption
    isplitl [Hcc] <;> iassumption
  iexact Htb

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear
  rw [bigSep_Ck]
  iintro ⟨-, #Hlev, Hcr, -, %K, #HS, ⟨Hb, Hs1, Hs2, Hs3, Hs4, Hr1, Hr2, Hr3, Hr4, Hc1, Hc2⟩, Hp0, Hp1⟩
  ihave Hc := (creds (F := F) c) $$ Hcr
  icases Hc with ⟨Hcb, Hk0, Hk1⟩
  ihave HR : records m ρ K $$ []
  · unfold records shared
    icases HS with ⟨H1, H2⟩
    isplitr; · iexact H1
    isplitr; · iexact H2
    iexact Hlev
  icases HR with #HR
  ihave HF := (init_intro m ρ K false c) $$ [Hs1 Hs2 Hr1 Hr2 Hc1 Hp0 Hk0]
  · isplitr; · iexact HR
    isplitl [Hs1 Hs2 Hr1 Hr2 Hc1]
    · isplitl [Hs1]; · iexact Hs1
      isplitl [Hs2]; · iexact Hs2
      isplitl [Hr1]; · iexact Hr1
      isplitl [Hr2] <;> iassumption
    isplitl [Hp0] <;> iassumption
  icases HF with ⟨HF, HbF⟩
  ihave HT := (init_intro m ρ K true c) $$ [Hs3 Hs4 Hr3 Hr4 Hc2 Hp1 Hk1]
  · isplitr; · iexact HR
    isplitl [Hs3 Hs4 Hr3 Hr4 Hc2]
    · isplitl [Hs3]; · iexact Hs3
      isplitl [Hs4]; · iexact Hs4
      isplitl [Hr3]; · iexact Hr3
      isplitl [Hr4] <;> iassumption
    isplitl [Hp1] <;> iassumption
  icases HT with ⟨HT, HbT⟩
  imodintro
  unfold start
  isplitl
  · iexists K
    isplitr; · iexact HR
    isplitl [HF HT]
    · isplitl [HF] <;> iassumption
    unfold barInit
    isplitl [Hb]
    · iapply (spot_intro m ρ K c .bar); isplitr; · iexact HR
      iexact Hb
    isplitl [Hcb]; · iexact Hcb
    isplitl [HbF]; · iexact HbF
    iexact HbT
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [sems0_eq]
  iintro ⟨Hr, HU, HO⟩
  isplitl [HU]; · iexact HU
  isplitl [HO]; · iexact HO
  iexact Hr

theorem stage_ne (w : Fin 3) (s : Fin (cfg0.win w).nbuf) : ∀ k : Ck, csem k ≠ .dma ((cfg0.win w).sem s) := by
  revert s
  fin_cases w <;> decide

theorem waits (c : Dev nD) : (levAts L lv : sProp 𝕄) ⊢ Pipeline.cellsWaits cfgs (dats m ρ) 0 0 c :=
  Pipeline.cellsWaits_intro cfgs (dats m ρ) 0 0 c fun w s t =>
    mayWait c _ 0 0 (by omega) (le_of_eq (by
      show lvK (kindOf _) 0 = 0
      rw [kindOf_none _ (stage_ne w s)]; rfl)) _ (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution on the 32 devices terminates, with each device's arrays
    at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held; -/
theorem finalA_x (c : Dev nD) : finalA m ρ c (0 : Fin 3) = (s₀ m ρ).mem ((c : Thread nD τ).loc main_arg0) :=
  (dats (F := F) m ρ 0 c).arrAt_in (0 : Fin 3) rfl _
theorem finalA_w (c : Dev nD) : finalA m ρ c (1 : Fin 3) = (s₀ m ρ).mem ((c : Thread nD τ).loc main_arg1) :=
  (dats (F := F) m ρ 0 c).arrAt_in (1 : Fin 3) rfl _

/-- and the result array what the body left in the output block. -/
theorem finalA_o (c : Dev nD) : (win0_2.blk (0 : Fin 1)).view.read (Elt F) (finalA m ρ c (2 : Fin 3)) = outG m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The one block of each window is its whole array. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem wstg_eq (c : Dev nD) : wstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem final_out (c : Dev nD) : finalA m ρ c (2 : Fin 3) = outG m ρ c := by
  have hz : (fun a => (win0_2.index (0 : Fin 1)) a * main_v1.ty.shape.size a) = fun _ => 0 := funext fun a => by fin_cases a <;> decide
  have hr := fun f => Memref.read_access_unit_zero (Elt F) main_v1 hz (fun a => by fin_cases a <;> decide) f
  exact (hr _).symm.trans (finalA_o m ρ c)

end Cert.KernelIdealProof

end
-- ==== Proof.KernelIdeal.Value.lean ====
module

public import proofs.«01_k».proof.Proof.KernelIdeal.Run
public import Idealize.ShloMosaic.Lib.Pointwise
public import Idealize.ShloMosaic.Lib.Layout
public import Idealize.ShloMosaic.Lib.ValueLayout
public import Idealize.ShloMosaic.Lib.Pipeline.Value

@[expose] public section

set_option maxRecDepth 16384
set_option backward.proofsInPublic true

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The devices a running sum has visited -/

/-- The `j`-th device against a direction. -/
theorem org_iter (d : Bool) (j : ℕ) (c : Dev nD) : ((org d)^[j] c).val = match d with | false => (c.val + 31 * j) % 32 | true => (c.val + j) % 32 := by
  have hc : c.val < 32 := c.isLt
  induction j with
  | zero => cases d <;> simp <;> omega
  | succ j ih =>
    rw [Function.iterate_succ_apply']
    cases d
    · show (((org false)^[j] c).val + 31) % 32 = _
      simp only [ih]; omega
    · show (((org true)^[j] c).val + 1) % 32 = _
      simp only [ih]; omega

/-- The first 32 of them are all the devices, each once. -/
theorem sum_ring (d : Bool) (c : Dev nD) (f : Dev nD → EReal) : ∑ j ∈ Finset.range 32, f ((org d)^[j] c) = ∑ e : Dev nD, f e := by
  rw [Finset.sum_range (fun j => f ((org d)^[j] c))]
  have hinj : Function.Injective (fun j : Fin 32 => (org d)^[j.val] c) := by
    intro j j' h
    have hv := congrArg Fin.val h
    simp only [org_iter] at hv
    have hj := j.isLt
    have hj' := j'.isLt
    have hc : c.val < 32 := c.isLt
    refine Fin.ext ?_
    cases d <;> simp only at hv <;> omega
  exact (Function.Bijective.sum_comp (e := fun j : Fin 32 => ((org d)^[j.val] c : Dev nD))
    ((Fintype.bijective_iff_injective_and_card _).mpr ⟨hinj, rfl⟩) f)

/-! ## The running sums as sums of products -/

/-- The shapes of the two whole arrays. -/
abbrev SX : Shape := ⟨2, ![8192, 8192]⟩
abbrev SW : Shape := ⟨2, ![8192, 4096]⟩

/-- Device `e`'s share of an entry of row block `b` of the product, in a direction's half of the columns: the products over
    the 256 columns of `X`, rows of `W`, that the device holds. -/
def part (X : SX.Idx → EReal) (W : SW.Idx → EReal) (d : Bool) (b e : Fin 32) (r : Fin 256) (l : Fin 2048) : EReal :=
  ∑ k : Fin 256, X (ix2 (⟨b.val * 256 + r.val, by omega⟩ : Fin 8192) (⟨e.val * 256 + k.val, by omega⟩ : Fin 8192))
    * W (ix2 (⟨e.val * 256 + k.val, by omega⟩ : Fin 8192) (⟨d.toNat * 2048 + l.val, by cases d <;> simp <;> omega⟩ : Fin 4096))

/-- The whole arrays' blocks are what the devices hold. -/
def Holds (X : SX.Idx → EReal) (W : SW.Idx → EReal) : Prop :=
  ∀ c : Dev nD, m ((c : Thread nD τ).loc main_arg0) = Layout.block S8192x256 SX 1 32 c X
    ∧ m ((c : Thread nD τ).loc main_arg1) = Layout.block S256x4096 SW 0 32 c W

theorem xrows_apply (X : SX.Idx → EReal) (W : SW.Idx → EReal) (h : Holds m X W) (d : Bool) (n : ℕ) (c : Dev nD) (r k : Fin 256) :
    xrows m ρ d n c (ix2 r k) = X (ix2 (⟨row d n c * 256 + r.val, by have := row_lt d n c; omega⟩ : Fin 8192) (⟨c.val * 256 + k.val, by have : c.val < 32 := c.isLt; omega⟩ : Fin 8192)) := by
  unfold xrows
  rw [xstg_eq, (h c).1, View.readAt_apply]
  show X _ = X _
  refine congrArg X (funext fun a => Fin.ext ?_)
  match a with
  | ⟨0, _⟩ => show 256 * row d n c + 1 * r.val = row d n c * 256 + r.val; omega
  | ⟨1, _⟩ => show c.val * 256 + (0 + 1 * k.val) = c.val * 256 + k.val; omega

theorem whalf_apply (X : SX.Idx → EReal) (W : SW.Idx → EReal) (h : Holds m X W) (d : Bool) (c : Dev nD) (k : Fin 256) (l : Fin 2048) :
    whalf m ρ d c (ix2 k l) = W (ix2 (⟨c.val * 256 + k.val, by have : c.val < 32 := c.isLt; omega⟩ : Fin 8192) (⟨d.toNat * 2048 + l.val, by cases d <;> simp <;> omega⟩ : Fin 4096)) := by
  unfold whalf
  rw [wstg_eq, (h c).2, View.readAt_apply]
  show W _ = W _
  refine congrArg W (funext fun a => Fin.ext ?_)
  cases d
  · match a with
    | ⟨0, _⟩ => show c.val * 256 + (0 + 1 * k.val) = c.val * 256 + k.val; omega
    | ⟨1, _⟩ => show 0 + 1 * l.val = 0 * 2048 + l.val; omega
  · match a with
    | ⟨0, _⟩ => show c.val * 256 + (0 + 1 * k.val) = c.val * 256 + k.val; omega
    | ⟨1, _⟩ => show 2048 + 1 * l.val = 1 * 2048 + l.val; omega

/-- A block product at an entry. -/
theorem pay3_apply (x : FVec Ideal S256x256 .f32) (w : FVec Ideal S256x2048 .f32) (r : Fin 256) (l : Fin 2048) :
    k0_pay3 x w (ix2 r l) = ∑ k : Fin 256, x (ix2 r k) * w (ix2 k l) := by
  pointwise [k0_pay3]

/-- The first running sum is the first product. -/
theorem pay11_apply (x : FVec Ideal S256x256 .f32) (w : FVec Ideal S256x2048 .f32) (r : Fin 256) (l : Fin 2048) :
    k0_pay11 (F := Ideal) x w (ix3 (0 : Fin 1) r l) = k0_pay3 (F := Ideal) x w (ix2 r l) := by
  pointwise [k0_pay11, k0_pay3]

/-- The next running sum adds a product. -/
theorem pay5_apply (p : FVec Ideal S256x2048 .f32) (v : FVec Ideal S1x256x2048 .f32) (r : Fin 256) (l : Fin 2048) :
    k0_pay5 p v (ix3 (0 : Fin 1) r l) = v (ix3 (0 : Fin 1) r l) + p (ix2 r l) := by
  pointwise [k0_pay5]

/-- The result adds the last product and cuts below at zero. -/
theorem pay2_apply (p : FVec Ideal S256x2048 .f32) (v : FVec Ideal S1x256x2048 .f32) (r : Fin 256) (l : Fin 2048) :
    k0_pay2 p v (ix2 r l) = max (v (ix3 (0 : Fin 1) r l) + p (ix2 r l)) 0 := by
  pointwise [k0_pay2]

theorem prod_apply (X : SX.Idx → EReal) (W : SW.Idx → EReal) (h : Holds m X W) (d : Bool) (n : ℕ) (c : Dev nD) (r : Fin 256) (l : Fin 2048) :
    prod m ρ d n c (ix2 r l) = part X W d ⟨row d n c, row_lt d n c⟩ c r l := by
  unfold prod part
  rw [pay3_apply]
  exact Finset.sum_congr rfl fun k _ => by rw [xrows_apply m ρ X W h, whalf_apply m ρ X W h]

/-- Before the `n`-th send a running sum has the shares of the device and of the `n` devices before it. -/
theorem acc_apply (X : SX.Idx → EReal) (W : SW.Idx → EReal) (h : Holds m X W) (d : Bool) (n : ℕ) (hn : n ≤ 31) (c : Dev nD) (r : Fin 256) (l : Fin 2048) :
    acc m ρ d n c (ix3 (0 : Fin 1) r l) = ∑ j ∈ Finset.range (n + 1), part X W d ⟨row d n c, row_lt d n c⟩ ((org d)^[j] c) r l := by
  induction n generalizing c with
  | zero =>
    show k0_pay11 (xrows m ρ d 0 c) (whalf m ρ d c) (ix3 (0 : Fin 1) r l) = _
    rw [pay11_apply]
    show prod m ρ d 0 c (ix2 r l) = _
    rw [prod_apply m ρ X W h, Finset.sum_range_one]
    rfl
  | succ n ih =>
    show k0_pay5 (prod m ρ d (n + 1) c) (acc m ρ d n (org d c)) (ix3 (0 : Fin 1) r l) = _
    rw [pay5_apply, ih (by omega), prod_apply m ρ X W h, Finset.sum_range_succ' _ (n + 1)]
    have hr : (⟨row d n (org d c), row_lt d n (org d c)⟩ : Fin 32) = ⟨row d (n + 1) c, row_lt d (n + 1) c⟩ := Fin.ext (row_succ d n (by omega) c).symm
    rw [hr]
    rfl

/-- A half of a device's result: at each entry the shares of all devices, cut below at zero. -/
theorem outHalf_apply (X : SX.Idx → EReal) (W : SW.Idx → EReal) (h : Holds m X W) (d : Bool) (c : Dev nD) (r : Fin 256) (l : Fin 2048) :
    outHalf m ρ d c (ix2 r l) = max (∑ e : Dev nD, part X W d c e r l) 0 := by
  unfold outHalf
  rw [pay2_apply]
  have h1 := acc_apply m ρ X W h d 31 le_rfl c r l
  have h2 : acc m ρ d 31 c (ix3 (0 : Fin 1) r l) = acc m ρ d 30 (org d c) (ix3 (0 : Fin 1) r l) + prod m ρ d 31 c (ix2 r l) :=
    pay5_apply (prod m ρ d 31 c) (acc m ρ d 30 (org d c)) r l
  have hrow : (⟨row d 31 c, row_lt d 31 c⟩ : Fin 32) = c := by
    have hc : c.val < 32 := c.isLt
    refine Fin.ext ?_
    cases d
    · show (c.val + 63 - 31) % 32 = c.val; omega
    · show (c.val + 1 + 31) % 32 = c.val; omega
  rw [← h2, h1, hrow, sum_ring d c (fun e => part X W d c e r l)]

/-- An entry of a device's result. -/
theorem outG_apply (X : SX.Idx → EReal) (W : SW.Idx → EReal) (h : Holds m X W) (c : Dev nD) (r : Fin 256) (j : Fin 4096) :
    outG m ρ c (ix2 r j) = max (∑ k : Fin 8192, X (ix2 (⟨c.val * 256 + r.val, by have : c.val < 32 := c.isLt; omega⟩ : Fin 8192) k) * W (ix2 k j)) 0 := by
  show outHalf m ρ (decide (2048 ≤ j.val)) c (halfIdx (ix2 r j)) = _
  have hi : halfIdx (ix2 r j) = ix2 r (⟨j.val % 2048, Nat.mod_lt _ (by omega)⟩ : Fin 2048) := by
    funext a
    match a with
    | ⟨0, _⟩ => rfl
    | ⟨1, _⟩ => rfl
  have hj : (⟨(decide (2048 ≤ j.val)).toNat * 2048 + j.val % 2048, by by_cases hh : 2048 ≤ j.val <;> simp [hh] <;> omega⟩ : Fin 4096) = j := by
    refine Fin.ext ?_
    have := j.isLt
    by_cases hh : 2048 ≤ j.val <;> simp [hh] <;> omega
  rw [hi, outHalf_apply m ρ X W h, Fin.sum_univ_tiles 32 256 rfl]
  unfold part
  simp only [hj]

end Cert.KernelIdealProof

end
-- ==== Proof.Ref.lean ====
module

public import proofs.«01_k».proof.ReferenceIdeal
public import proofs.«01_k».proof.Proof.Gen.ReferenceIdeal
public import Idealize.ShloMosaic.Lib.StableHlo.Run
public import Idealize.ShloMosaic.Lib.Pointwise

@[expose] public section

set_option maxRecDepth 16384

noncomputable section

namespace Cert.ReferenceIdealProof

open Cert.ReferenceIdeal Cert.ReferenceIdeal.Gen
open Idealize.ShloMosaic Idealize.ShloMosaic.TcCoe Idealize.ShloMosaic.StableHlo Idealize.SL.Sem

variable {F : FTy → Type} [FloatOps F]

/-! ## The run of the reference -/

/-- The reference's result from its arguments: the product, cut below at zero. -/
def refOut (x : FVec F S8192x8192 .f32) (w : FVec F S8192x4096 .f32) : FVec F S8192x4096 .f32 :=
  maximumf (Host.dotGeneral dot_S8192x8192_S8192x4096_S8192x4096_1_0_0_1_n_n none x w)
    (broadcastInDim S8192x4096 ![] Facts₀.bcast_S_S8192x4096 (constant S_ .f32 0x00000000#32))

/-- The reference's operations, in order. -/
abbrev ops : List (HloOp τ sig (Elt F)) :=
  [ binary main_arg0 main_arg1 main_v0 ((fun l r => Host.dotGeneral dot_S8192x8192_S8192x4096_S8192x4096_1_0_0_1_n_n none l r) : (⟨S8192x8192, .f32⟩ : BufTy).Contents (Elt F) → (⟨S8192x4096, .f32⟩ : BufTy).Contents (Elt F) → (⟨S8192x4096, .f32⟩ : BufTy).Contents (Elt F)),
    nullary main_cst (constant S_ .f32 0x00000000#32),
    unary main_cst main_v1 (broadcastInDim S8192x4096 ![] Facts₀.bcast_S_S8192x4096 : (⟨S_, .f32⟩ : BufTy).Contents (Elt F) → (⟨S8192x4096, .f32⟩ : BufTy).Contents (Elt F)),
    binary main_v0 main_v1 main_v2 (maximumf : (⟨S8192x4096, .f32⟩ : BufTy).Contents (Elt F) → (⟨S8192x4096, .f32⟩ : BufTy).Contents (Elt F) → (⟨S8192x4096, .f32⟩ : BufTy).Contents (Elt F)) ]

theorem main_eq (c : Dev nD) : main (F := F) c = seq ops := rfl

theorem out_eq (V : Valuation τ sig (Elt F)) : after ops V (main_v2 : DevRef τ sig) = refOut (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub ..⟩

/-- The reference terminates with its result computed and its arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m ρ)

/-- An entry of the reference's result, at the real numbers. -/
theorem refOut_apply (x : FVec Ideal S8192x8192 .f32) (w : FVec Ideal S8192x4096 .f32) (i : Fin 8192) (j : Fin 4096) :
    refOut x w (ix2 i j) = max (∑ k : Fin 8192, x (ix2 i k) * w (ix2 k j)) 0 := by
  pointwise [refOut]

end Cert.ReferenceIdealProof

end
-- ==== Proof.lean ====
/-
  The certificate's claims.

  The kernel is the ring reduce-scatter product on 32 devices. Proof/Kernel and Proof/KernelIdeal hold the same modules for
  the compiled kernel and for its idealization: Geo (the ring), Cells (contents, semaphores, debts), Steps and Hop (one
  transfer), Loop (two transfers in a trip), Body and Sound (one device), Point and Run (the launch on all devices).
  Proof/KernelIdeal/Value reads the result at an entry as a sum over the devices; Proof/Ref runs the reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Kernel.Run
public import proofs.«01_k».proof.Proof.KernelIdeal.Run
public import proofs.«01_k».proof.Proof.KernelIdeal.Value
public import proofs.«01_k».proof.Proof.Ref

@[expose] public section

noncomputable section

namespace Cert.Proof

open Idealize.ShloMosaic Idealize.ShloMosaic.TcCoe Idealize.SL.Sem

/-- The kernel terminates on every device with its arguments unchanged and every semaphore counter at zero. -/
theorem frame_p : Cert.quiescent_Kernel := by
  intro m ρ _
  exact (θ_run Cert.Kernel.defs _ _).mono
    (fun _ h => ⟨fun c => ⟨(h.1 c (0 : Fin 3)).trans (Cert.KernelProof.finalA_x m ρ c), (h.1 c (1 : Fin 3)).trans (Cert.KernelProof.finalA_w m ρ c)⟩, h.2⟩)
    (Cert.KernelProof.run_main (F := Bits) m ρ)

/-- So does its idealization, -/
theorem frame_pi : Cert.quiescent_KernelIdeal := by
  intro m ρ _
  exact (θ_run Cert.KernelIdeal.defs _ _).mono
    (fun _ h => ⟨fun c => ⟨(h.1 c (0 : Fin 3)).trans (Cert.KernelIdealProof.finalA_x m ρ c), (h.1 c (1 : Fin 3)).trans (Cert.KernelIdealProof.finalA_w m ρ c)⟩, h.2⟩)
    (Cert.KernelIdealProof.run_main (F := Ideal) m ρ)

/-- and the idealized reference. -/
theorem frame_ri : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdealProof.run_main (F := Ideal) m ρ)

/-- What device `c` is left with, as its block of rows of the reference's result on the whole arrays. -/
theorem outG_eq_block (m : (ℓ : Loc Cert.KernelIdeal.nD Cert.KernelIdeal.τ Cert.KernelIdeal.sig) → Buf (Elt Ideal) ℓ)
    (ρ : Dev Cert.KernelIdeal.nD → PrngReg) (X : FVec Ideal Cert.KernelIdealProof.SX .f32) (W : FVec Ideal Cert.KernelIdealProof.SW .f32)
    (h : Cert.KernelIdealProof.Holds m X W) (c : Dev Cert.KernelIdeal.nD) :
    Cert.KernelIdealProof.outG m ρ c
      = Layout.block ⟨2, ![256, 4096]⟩ ⟨2, ![8192, 4096]⟩ 0 32 c (Cert.ReferenceIdealProof.refOut (F := Ideal) X W) (by decide) := by
  funext i
  obtain ⟨r, j, rfl⟩ : ∃ (r : Fin 256) (j : Fin 4096), i = ix2 r j := by
    refine ⟨i 0, i 1, ?_⟩
    funext a
    match a with
    | ⟨0, _⟩ => rfl
    | ⟨1, _⟩ => rfl
  refine (Cert.KernelIdealProof.outG_apply m ρ X W h c r j).trans ?_
  refine (Cert.ReferenceIdealProof.refOut_apply X W _ _).symm.trans ?_
  rw [Layout.block_apply]
  refine congrArg (Cert.ReferenceIdealProof.refOut (F := Ideal) X W) ?_
  funext a
  match a with
  | ⟨0, _⟩ => rfl
  | ⟨1, _⟩ => rfl

/-- Over the real numbers each device's result is its block of rows of the reference's. -/
theorem algebraic : Cert.algebraic_KernelIdeal_ReferenceIdeal := by
  intro m ρ m' ρ' _ hagree
  refine ⟨Cert.ReferenceIdealProof.refOut (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨(h.1 c (2 : Fin 3)).trans ((Cert.KernelIdealProof.final_out m ρ c).trans ?_),
        (h.1 c (0 : Fin 3)).trans (Cert.KernelIdealProof.finalA_x m ρ c), (h.1 c (1 : Fin 3)).trans (Cert.KernelIdealProof.finalA_w m ρ c)⟩)
      (Cert.KernelIdealProof.run_main (F := Ideal) m ρ)
    exact outG_eq_block m ρ _ _ hagree c
  · exact (θ_run Cert.ReferenceIdeal.defs _ _).mono (fun _ h => h 0) (Cert.ReferenceIdealProof.run_main (F := Ideal) m' ρ')

theorem claim : Cert.Claim :=
  ⟨Cert.Kernel.Gen.facts, Cert.KernelIdeal.Gen.facts, Cert.ReferenceIdeal.Gen.facts, frame_p, frame_pi, frame_ri, trivial, algebraic⟩

end Cert.Proof

end
